-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_v20) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v40) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3_0) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_v19) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v58) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S2x2560x1152 : Shape := ⟨3, ![2, 2560, 1152]⟩
abbrev S2x2560x1024 : Shape := ⟨3, ![2, 2560, 1024]⟩
abbrev S2x2048x1024 : Shape := ⟨3, ![2, 2048, 1024]⟩
abbrev S2x2560x512 : Shape := ⟨3, ![2, 2560, 512]⟩
abbrev S2x256x512 : Shape := ⟨3, ![2, 256, 512]⟩
abbrev S2x2048x512 : Shape := ⟨3, ![2, 2048, 512]⟩
abbrev S2x2304x512 : Shape := ⟨3, ![2, 2304, 512]⟩
abbrev S2x2304x4x128 : Shape := ⟨4, ![2, 2304, 4, 128]⟩
abbrev S2x256x1024 : Shape := ⟨3, ![2, 256, 1024]⟩
abbrev S2x2304x1024 : Shape := ⟨3, ![2, 2304, 1024]⟩
abbrev S2x2304x4x256 : Shape := ⟨4, ![2, 2304, 4, 256]⟩
abbrev S_ : Shape := ⟨0, ![]⟩
abbrev S2x1x4x128 : Shape := ⟨4, ![2, 1, 4, 128]⟩
abbrev S2x17x4x128 : Shape := ⟨4, ![2, 17, 4, 128]⟩
abbrev S2x18x4x128 : Shape := ⟨4, ![2, 18, 4, 128]⟩
abbrev S2304 : Shape := ⟨1, ![2304]⟩
abbrev S1x2304 : Shape := ⟨2, ![1, 2304]⟩
abbrev S18 : Shape := ⟨1, ![18]⟩
abbrev S18x1 : Shape := ⟨2, ![18, 1]⟩
abbrev S18x2304 : Shape := ⟨2, ![18, 2304]⟩
abbrev S1x18x2304x1x1 : Shape := ⟨5, ![1, 18, 2304, 1, 1]⟩
abbrev S2x18x1x4x128 : Shape := ⟨5, ![2, 18, 1, 4, 128]⟩
abbrev S2x1x2304x4x128 : Shape := ⟨5, ![2, 1, 2304, 4, 128]⟩
abbrev S2x18x2304x4x128 : Shape := ⟨5, ![2, 18, 2304, 4, 128]⟩
abbrev S2x1x2304x4x256x1 : Shape := ⟨6, ![2, 1, 2304, 4, 256, 1]⟩
abbrev S2x18x2304x4x1x128 : Shape := ⟨6, ![2, 18, 2304, 4, 1, 128]⟩
abbrev S2x18x2304x4x256x128 : Shape := ⟨6, ![2, 18, 2304, 4, 256, 128]⟩
abbrev S2x18x4x256x128 : Shape := ⟨5, ![2, 18, 4, 256, 128]⟩
abbrev S18x2x4x256x128 : Shape := ⟨5, ![18, 2, 4, 256, 128]⟩
abbrev S18x8x256x128 : Shape := ⟨4, ![18, 8, 256, 128]⟩
abbrev S2x20x128x512 : Shape := ⟨4, ![2, 20, 128, 512]⟩
abbrev S2x128x512 : Shape := ⟨3, ![2, 128, 512]⟩
abbrev S2x128x1024 : Shape := ⟨3, ![2, 128, 1024]⟩
abbrev S1x8x256x128 : Shape := ⟨4, ![1, 8, 256, 128]⟩
abbrev S16x256x128 : Shape := ⟨3, ![16, 256, 128]⟩
abbrev S128x128 : Shape := ⟨2, ![128, 128]⟩
abbrev S1x128x256 : Shape := ⟨3, ![1, 128, 256]⟩
abbrev S128x256 : Shape := ⟨2, ![128, 256]⟩
abbrev S1x128x128 : Shape := ⟨3, ![1, 128, 128]⟩
abbrev S1x128 : Shape := ⟨2, ![1, 128]⟩
abbrev S1x1x256x128 : Shape := ⟨4, ![1, 1, 256, 128]⟩
abbrev S256x128 : Shape := ⟨2, ![256, 128]⟩
abbrev S1x256x128 : Shape := ⟨3, ![1, 256, 128]⟩
abbrev S128 : Shape := ⟨1, ![128]⟩
abbrev S128x512 : Shape := ⟨2, ![128, 512]⟩
abbrev S1x128x512 : Shape := ⟨3, ![1, 128, 512]⟩

abbrev nBuf : Space → Nat
  | .hbm => 142
  | .vmem => 41
  | .smem => 0
  | _ => 0

abbrev hbmTy0_0 (i : Nat) : BufTy := match i % 128 with
  | 0 => ⟨S2x2560x1152, .f32⟩
  | 1 => ⟨S2x2560x1024, .bf16⟩
  | 2 => ⟨S2x2560x1024, .f32⟩
  | 3 => ⟨S2x2048x1024, .bf16⟩
  | 4 => ⟨S2x2560x512, .f32⟩
  | 5 => ⟨S2x2560x512, .f32⟩
  | 6 => ⟨S2x256x512, .f32⟩
  | 7 => ⟨S2x2048x512, .f32⟩
  | 8 => ⟨S2x2304x512, .f32⟩
  | 9 => ⟨S2x2304x4x128, .f32⟩
  | 10 => ⟨S2x256x1024, .bf16⟩
  | 11 => ⟨S2x2048x1024, .bf16⟩
  | 12 => ⟨S2x2304x1024, .bf16⟩
  | 13 => ⟨S2x2304x4x256, .bf16⟩
  | 14 => ⟨S2x2304x4x256, .f32⟩
  | 15 => ⟨S2x256x512, .f32⟩
  | 16 => ⟨S2x2048x512, .f32⟩
  | 17 => ⟨S2x2304x512, .f32⟩
  | 18 => ⟨S2x2304x4x128, .f32⟩
  | 19 => ⟨S_, .f32⟩
  | 20 => ⟨S_, .f32⟩
  | 21 => ⟨S2x2304x4x128, .f32⟩
  | 22 => ⟨S2x1x4x128, .f32⟩
  | 23 => ⟨S_, .f32⟩
  | 24 => ⟨S2x1x4x128, .f32⟩
  | 25 => ⟨S2x17x4x128, .f32⟩
  | 26 => ⟨S2x18x4x128, .f32⟩
  | 27 => ⟨S2304, .i32⟩
  | 28 => ⟨S1x2304, .i32⟩
  | 29 => ⟨S18, .i32⟩
  | 30 => ⟨S18x1, .i32⟩
  | 31 => ⟨S_, .i32⟩
  | 32 => ⟨S18x1, .i32⟩
  | 33 => ⟨S18x1, .i32⟩
  | 34 => ⟨S18x2304, .i32⟩
  | 35 => ⟨S18x2304, .i32⟩
  | 36 => ⟨S18x2304, .i1⟩
  | 37 => ⟨S1x18x2304x1x1, .i1⟩
  | 38 => ⟨S2x18x1x4x128, .f32⟩
  | 39 => ⟨S2x1x2304x4x128, .f32⟩
  | 40 => ⟨S2x18x2304x4x128, .f32⟩
  | 41 => ⟨S2x18x2304x4x128, .f32⟩
  | 42 => ⟨S2x18x2304x4x128, .f32⟩
  | 43 => ⟨S_, .f32⟩
  | 44 => ⟨S_, .f32⟩
  | 45 => ⟨S2x18x2304x4x128, .i1⟩
  | 46 => ⟨S2x18x2304x4x128, .f32⟩
  | 47 => ⟨S2x18x2304x4x128, .f32⟩
  | 48 => ⟨S2x1x2304x4x128, .f32⟩
  | 49 => ⟨S2x18x2304x4x128, .f32⟩
  | 50 => ⟨S2x18x2304x4x128, .f32⟩
  | 51 => ⟨S2x18x2304x4x128, .f32⟩
  | 52 => ⟨S2x1x2304x4x256x1, .f32⟩
  | 53 => ⟨S2x18x2304x4x1x128, .f32⟩
  | 54 => ⟨S2x18x2304x4x256x128, .f32⟩
  | 55 => ⟨S2x18x2304x4x256x128, .f32⟩
  | 56 => ⟨S2x18x2304x4x256x128, .f32⟩
  | 57 => ⟨S_, .f32⟩
  | 58 => ⟨S2x18x4x256x128, .f32⟩
  | 59 => ⟨S18x2x4x256x128, .f32⟩
  | 60 => ⟨S18x8x256x128, .f32⟩
  | 61 => ⟨S2x20x128x512, .f32⟩
  | 62 => ⟨S_, .f32⟩
  | 63 => ⟨S_, .f32⟩
  | 64 => ⟨S2x20x128x512, .f32⟩
  | 65 => ⟨S2x2560x512, .f32⟩
  | 66 => ⟨S2x2560x512, .f32⟩
  | 67 => ⟨S2x2560x512, .f32⟩
  | 68 => ⟨S2x256x512, .f32⟩
  | 69 => ⟨S2x2048x512, .f32⟩
  | 70 => ⟨S2x256x512, .f32⟩
  | 71 => ⟨S2x2048x512, .f32⟩
  | 72 => ⟨S2x2304x512, .f32⟩
  | 73 => ⟨S2x2304x4x128, .f32⟩
  | 74 => ⟨S2x256x1024, .bf16⟩
  | 75 => ⟨S2x2048x1024, .bf16⟩
  | 76 => ⟨S2x256x1024, .bf16⟩
  | 77 => ⟨S2x2048x1024, .bf16⟩
  | 78 => ⟨S2x2304x1024, .bf16⟩
  | 79 => ⟨S2x2304x4x256, .bf16⟩
  | 80 => ⟨S2x2304x4x256, .f32⟩
  | 81 => ⟨S2x256x512, .f32⟩
  | 82 => ⟨S2x2048x512, .f32⟩
  | 83 => ⟨S2x256x512, .f32⟩
  | 84 => ⟨S2x2048x512, .f32⟩
  | 85 => ⟨S2x2304x512, .f32⟩
  | 86 => ⟨S2x2304x4x128, .f32⟩
  | 87 => ⟨S_, .f32⟩
  | 88 => ⟨S_, .f32⟩
  | 89 => ⟨S2x2304x4x128, .f32⟩
  | 90 => ⟨S2x1x4x128, .f32⟩
  | 91 => ⟨S_, .f32⟩
  | 92 => ⟨S2x1x4x128, .f32⟩
  | 93 => ⟨S2x17x4x128, .f32⟩
  | 94 => ⟨S2x18x4x128, .f32⟩
  | 95 => ⟨S2304, .i32⟩
  | 96 => ⟨S1x2304, .i32⟩
  | 97 => ⟨S18, .i32⟩
  | 98 => ⟨S18x1, .i32⟩
  | 99 => ⟨S_, .i32⟩
  | 100 => ⟨S18x1, .i32⟩
  | 101 => ⟨S18x1, .i32⟩
  | 102 => ⟨S18x2304, .i32⟩
  | 103 => ⟨S18x2304, .i32⟩
  | 104 => ⟨S18x2304, .i1⟩
  | 105 => ⟨S1x18x2304x1x1, .i1⟩
  | 106 => ⟨S2x18x1x4x128, .f32⟩
  | 107 => ⟨S2x1x2304x4x128, .f32⟩
  | 108 => ⟨S2x18x2304x4x128, .f32⟩
  | 109 => ⟨S2x18x2304x4x128, .f32⟩
  | 110 => ⟨S2x18x2304x4x128, .f32⟩
  | 111 => ⟨S_, .f32⟩
  | 112 => ⟨S_, .f32⟩
  | 113 => ⟨S2x18x2304x4x128, .i1⟩
  | 114 => ⟨S2x18x2304x4x128, .f32⟩
  | 115 => ⟨S2x18x2304x4x128, .f32⟩
  | 116 => ⟨S2x1x2304x4x128, .f32⟩
  | 117 => ⟨S2x18x2304x4x128, .f32⟩
  | 118 => ⟨S2x18x2304x4x128, .f32⟩
  | 119 => ⟨S2x18x2304x4x128, .f32⟩
  | 120 => ⟨S2x1x2304x4x256x1, .f32⟩
  | 121 => ⟨S2x18x2304x4x1x128, .f32⟩
  | 122 => ⟨S2x18x2304x4x256x128, .f32⟩
  | 123 => ⟨S2x18x2304x4x256x128, .f32⟩
  | 124 => ⟨S2x18x2304x4x256x128, .f32⟩
  | 125 => ⟨S_, .f32⟩
  | 126 => ⟨S2x18x4x256x128, .f32⟩
  | 127 => ⟨S18x2x4x256x128, .f32⟩
  | _ => ⟨S2x2560x1152, .f32⟩

abbrev hbmTy0_1 (i : Nat) : BufTy := match i % 128 with
  | 0 => ⟨S18x8x256x128, .f32⟩
  | 1 => ⟨S2x20x128x512, .f32⟩
  | 2 => ⟨S_, .f32⟩
  | 3 => ⟨S_, .f32⟩
  | 4 => ⟨S2x20x128x512, .f32⟩
  | 5 => ⟨S2x2560x512, .f32⟩
  | 6 => ⟨S2x2560x512, .bf16⟩
  | 7 => ⟨S2x2560x512, .bf16⟩
  | 8 => ⟨S2x2560x1024, .bf16⟩
  | 9 => ⟨S2x2560x512, .f32⟩
  | 10 => ⟨S2x2560x512, .bf16⟩
  | 11 => ⟨S2x2560x512, .bf16⟩
  | 12 => ⟨S2x2560x1024, .bf16⟩
  | 13 => ⟨S2x2560x512, .f32⟩
  | _ => ⟨S2x2560x1152, .f32⟩

abbrev hbmTy (i : Nat) : BufTy := match i / 128 with
  | 0 => hbmTy0_0 i
  | 1 => hbmTy0_1 i
  | _ => ⟨S2x2560x1152, .f32⟩

abbrev bufTy : (tb : Table) → Fin (tcTables nBuf tb) → BufTy
  | .hbm, ⟨i, _⟩ => hbmTy i
  | .local _ .vmem, ⟨0, _⟩ => ⟨S2x128x512, .f32⟩
  | .local _ .vmem, ⟨1, _⟩ => ⟨S2x128x512, .f32⟩
  | .local _ .vmem, ⟨2, _⟩ => ⟨S2x128x512, .f32⟩
  | .local _ .vmem, ⟨3, _⟩ => ⟨S2x128x512, .f32⟩
  | .local _ .vmem, ⟨4, _⟩ => ⟨S2x128x1024, .bf16⟩
  | .local _ .vmem, ⟨5, _⟩ => ⟨S2x128x1024, .bf16⟩
  | .local _ .vmem, ⟨6, _⟩ => ⟨S2x128x512, .f32⟩
  | .local _ .vmem, ⟨7, _⟩ => ⟨S2x128x512, .f32⟩
  | .local _ .vmem, ⟨8, _⟩ => ⟨S2x128x1024, .bf16⟩
  | .local _ .vmem, ⟨9, _⟩ => ⟨S2x128x1024, .bf16⟩
  | .local _ .vmem, ⟨10, _⟩ => ⟨S1x8x256x128, .f32⟩
  | .local _ .vmem, ⟨11, _⟩ => ⟨S1x8x256x128, .f32⟩
  | .local _ .vmem, ⟨12, _⟩ => ⟨S2x128x512, .f32⟩
  | .local _ .vmem, ⟨13, _⟩ => ⟨S2x128x512, .f32⟩
  | .local _ .vmem, ⟨14, _⟩ => ⟨S2x128x512, .f32⟩
  | .local _ .vmem, ⟨15, _⟩ => ⟨S2x128x512, .f32⟩
  | .local _ .vmem, ⟨16, _⟩ => ⟨S2x128x1024, .bf16⟩
  | .local _ .vmem, ⟨17, _⟩ => ⟨S2x128x1024, .bf16⟩
  | .local _ .vmem, ⟨18, _⟩ => ⟨S2x128x512, .f32⟩
  | .local _ .vmem, ⟨19, _⟩ => ⟨S2x128x512, .f32⟩
  | .local _ .vmem, ⟨20, _⟩ => ⟨S2x128x1024, .bf16⟩
  | .local _ .vmem, ⟨21, _⟩ => ⟨S2x128x1024, .bf16⟩
  | .local _ .vmem, ⟨22, _⟩ => ⟨S1x8x256x128, .f32⟩
  | .local _ .vmem, ⟨23, _⟩ => ⟨S1x8x256x128, .f32⟩
  | .local _ .vmem, ⟨24, _⟩ => ⟨S2x128x512, .bf16⟩
  | .local _ .vmem, ⟨25, _⟩ => ⟨S2x128x512, .bf16⟩
  | .local _ .vmem, ⟨26, _⟩ => ⟨S2x128x512, .bf16⟩
  | .local _ .vmem, ⟨27, _⟩ => ⟨S2x128x512, .bf16⟩
  | .local _ .vmem, ⟨28, _⟩ => ⟨S2x128x1024, .bf16⟩
  | .local _ .vmem, ⟨29, _⟩ => ⟨S2x128x1024, .bf16⟩
  | .local _ .vmem, ⟨30, _⟩ => ⟨S2x128x512, .f32⟩
  | .local _ .vmem, ⟨31, _⟩ => ⟨S2x128x512, .f32⟩
  | .local _ .vmem, ⟨32, _⟩ => ⟨S2x128x512, .bf16⟩
  | .local _ .vmem, ⟨33, _⟩ => ⟨S2x128x512, .bf16⟩
  | .local _ .vmem, ⟨34, _⟩ => ⟨S2x128x512, .bf16⟩
  | .local _ .vmem, ⟨35, _⟩ => ⟨S2x128x512, .bf16⟩
  | .local _ .vmem, ⟨36, _⟩ => ⟨S2x128x1024, .bf16⟩
  | .local _ .vmem, ⟨37, _⟩ => ⟨S2x128x1024, .bf16⟩
  | .local _ .vmem, ⟨38, _⟩ => ⟨S2x128x512, .f32⟩
  | .local _ .vmem, ⟨39, _⟩ => ⟨S2x128x512, .f32⟩
  | .local _ .vmem, ⟨40, _⟩ => ⟨S16x256x128, .f32⟩
  | _, _ => ⟨S2x2560x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_call0_cst : Ref sig .tc := ⟨.hbm, 19, rfl⟩
abbrev main_call0_call0_v0 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_1 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call2_cst : Ref sig .tc := ⟨.hbm, 62, rfl⟩
abbrev main_call2_v0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_call9_call0_cst : Ref sig .tc := ⟨.hbm, 87, rfl⟩
abbrev main_call9_call0_v0 : Ref sig .tc := ⟨.hbm, 88, rfl⟩
abbrev main_v72 : Ref sig .tc := ⟨.hbm, 89, rfl⟩
abbrev main_v73 : Ref sig .tc := ⟨.hbm, 90, rfl⟩
abbrev main_cst_2 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_c_3 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_4 : Ref sig .tc := ⟨.hbm, 111, rfl⟩
abbrev main_call10_v0 : Ref sig .tc := ⟨.hbm, 112, rfl⟩
abbrev main_call10_v1 : Ref sig .tc := ⟨.hbm, 113, rfl⟩
abbrev main_call10_v2 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_5 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_call11_cst : Ref sig .tc := ⟨.hbm, 130, rfl⟩
abbrev main_call11_v0 : Ref sig .tc := ⟨.hbm, 131, rfl⟩
abbrev main_v106 : Ref sig .tc := ⟨.hbm, 132, rfl⟩
abbrev main_v107 : Ref sig .tc := ⟨.hbm, 133, rfl⟩
abbrev main_v108_0 : Ref sig .tc := ⟨.hbm, 134, rfl⟩
abbrev main_v108_1 : Ref sig .tc := ⟨.hbm, 135, rfl⟩
abbrev main_v108_2 : Ref sig .tc := ⟨.hbm, 136, rfl⟩
abbrev main_v108_3 : Ref sig .tc := ⟨.hbm, 137, rfl⟩
abbrev main_v108_4 : Ref sig .tc := ⟨.hbm, 138, rfl⟩
abbrev main_v108_5 : Ref sig .tc := ⟨.hbm, 139, rfl⟩
abbrev main_v108_6 : Ref sig .tc := ⟨.hbm, 140, rfl⟩
abbrev main_v108_7 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c16_i32 : BitVec 32 := 16#32
  let v2 : BitVec 32 := Scalar.addi c16_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_1 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c16_i32 : BitVec 32 := 16#32
  let v2 : BitVec 32 := Scalar.addi c16_i32 v0
  let c2_i32_0 : BitVec 32 := 2#32
  let v3 : BitVec 32 := Scalar.subi v0 c2_i32_0
  let v4 : BitVec 32 := Scalar.select v1 v2 v3
  let c0_i32 : BitVec 32 := 0#32
  let c1_i32 : BitVec 32 := 1#32
  let c0_i32_1 : BitVec 32 := 0#32
  ![c0_i32.toNat, v4.toNat, c1_i32.toNat]

def cc0_transform_2 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c16_i32 : BitVec 32 := 16#32
  let v2 : BitVec 32 := Scalar.addi c16_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_3 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c16_i32 : BitVec 32 := 16#32
  let v2 : BitVec 32 := Scalar.addi c16_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_4 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c2_i32_0 : BitVec 32 := 2#32
  let v2 : BitVec 1 := Scalar.cmpi .slt v0 c2_i32_0
  let c16_i32 : BitVec 32 := 16#32
  let v3 : BitVec 32 := Scalar.addi c16_i32 v0
  let c2_i32_1 : BitVec 32 := 2#32
  let v4 : BitVec 32 := Scalar.subi v0 c2_i32_1
  let v5 : BitVec 32 := Scalar.select v2 v3 v4
  let c0_i32 : BitVec 32 := 0#32
  let v6 : BitVec 32 := Scalar.select v1 c0_i32 v5
  let c0_i32_2 : BitVec 32 := 0#32
  let c0_i32_3 : BitVec 32 := 0#32
  let c0_i32_4 : BitVec 32 := 0#32
  ![c0_i32_2.toNat, v6.toNat, c0_i32_3.toNat]

def cc0_transform_5 (i : grid0.Coords) : Fin 4 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c1_i32 : BitVec 32 := 1#32
  let v2 : BitVec 32 := Scalar.subi c1_i32 v0
  let c16_i32 : BitVec 32 := 16#32
  let v3 : BitVec 32 := Scalar.addi c16_i32 v2
  let c2_i32_0 : BitVec 32 := 2#32
  let v4 : BitVec 32 := Scalar.subi v0 c2_i32_0
  let c15_i32 : BitVec 32 := 15#32
  let v5 : BitVec 32 := Scalar.subi c15_i32 v4
  let v6 : BitVec 32 := Scalar.select v1 v3 v5
  let c0_i32 : BitVec 32 := 0#32
  let c0_i32_1 : BitVec 32 := 0#32
  let c0_i32_2 : BitVec 32 := 0#32
  ![c0_i32.toNat, v6.toNat, c0_i32_1.toNat]

def cc0_transform_7 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c1_i32 : BitVec 32 := 1#32
  let v2 : BitVec 32 := Scalar.subi c1_i32 v0
  let c16_i32 : BitVec 32 := 16#32
  let v3 : BitVec 32 := Scalar.addi c16_i32 v2
  let c2_i32_0 : BitVec 32 := 2#32
  let v4 : BitVec 32 := Scalar.subi v0 c2_i32_0
  let c15_i32 : BitVec 32 := 15#32
  let v5 : BitVec 32 := Scalar.subi c15_i32 v4
  let v6 : BitVec 32 := Scalar.select v1 v3 v5
  let c0_i32 : BitVec 32 := 0#32
  let c1_i32_1 : BitVec 32 := 1#32
  let c0_i32_2 : BitVec 32 := 0#32
  ![c0_i32.toNat, v6.toNat, c1_i32_1.toNat]

def cc0_transform_8 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c1_i32 : BitVec 32 := 1#32
  let v2 : BitVec 32 := Scalar.subi c1_i32 v0
  let c16_i32 : BitVec 32 := 16#32
  let v3 : BitVec 32 := Scalar.addi c16_i32 v2
  let c2_i32_0 : BitVec 32 := 2#32
  let v4 : BitVec 32 := Scalar.subi v0 c2_i32_0
  let c15_i32 : BitVec 32 := 15#32
  let v5 : BitVec 32 := Scalar.subi c15_i32 v4
  let v6 : BitVec 32 := Scalar.select v1 v3 v5
  let c0_i32 : BitVec 32 := 0#32
  let c0_i32_1 : BitVec 32 := 0#32
  let c0_i32_2 : BitVec 32 := 0#32
  ![c0_i32.toNat, v6.toNat, c0_i32_1.toNat]

def cc0_transform_9 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c1_i32 : BitVec 32 := 1#32
  let v2 : BitVec 32 := Scalar.subi c1_i32 v0
  let c16_i32 : BitVec 32 := 16#32
  let v3 : BitVec 32 := Scalar.addi c16_i32 v2
  let c2_i32_0 : BitVec 32 := 2#32
  let v4 : BitVec 32 := Scalar.subi v0 c2_i32_0
  let c15_i32 : BitVec 32 := 15#32
  let v5 : BitVec 32 := Scalar.subi c15_i32 v4
  let v6 : BitVec 32 := Scalar.select v1 v3 v5
  let c0_i32 : BitVec 32 := 0#32
  let c0_i32_1 : BitVec 32 := 0#32
  let c0_i32_2 : BitVec 32 := 0#32
  ![c0_i32.toNat, v6.toNat, c0_i32_1.toNat]

def cc0_transform_10 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c2_i32_0 : BitVec 32 := 2#32
  let v2 : BitVec 1 := Scalar.cmpi .slt v0 c2_i32_0
  let c1_i32 : BitVec 32 := 1#32
  let v3 : BitVec 32 := Scalar.subi c1_i32 v0
  let c16_i32 : BitVec 32 := 16#32
  let v4 : BitVec 32 := Scalar.addi c16_i32 v3
  let c2_i32_1 : BitVec 32 := 2#32
  let v5 : BitVec 32 := Scalar.subi v0 c2_i32_1
  let c15_i32 : BitVec 32 := 15#32
  let v6 : BitVec 32 := Scalar.subi c15_i32 v5
  let v7 : BitVec 32 := Scalar.select v2 v4 v6
  let c15_i32_2 : BitVec 32 := 15#32
  let v8 : BitVec 32 := Scalar.select v1 c15_i32_2 v7
  let c0_i32 : BitVec 32 := 0#32
  let c0_i32_3 : BitVec 32 := 0#32
  let c0_i32_4 : BitVec 32 := 0#32
  ![c0_i32.toNat, v8.toNat, c0_i32_3.toNat]

def cc0_transform_11 (i : grid0.Coords) : Fin 4 → Nat :=
  let arg0 : BitVec 32 := BitVec.ofNat 32 (i 0).val
  let c17_i32 : BitVec 32 := 17#32
  let v0 : BitVec 32 := Scalar.subi c17_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_12 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c16_i32 : BitVec 32 := 16#32
  let v2 : BitVec 32 := Scalar.addi c16_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_13 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c16_i32 : BitVec 32 := 16#32
  let v2 : BitVec 32 := Scalar.addi c16_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_14 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c16_i32 : BitVec 32 := 16#32
  let v2 : BitVec 32 := Scalar.addi c16_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_15 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c16_i32 : BitVec 32 := 16#32
  let v2 : BitVec 32 := Scalar.addi c16_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_16 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c1_i32 : BitVec 32 := 1#32
  let v2 : BitVec 32 := Scalar.subi c1_i32 v0
  let c16_i32 : BitVec 32 := 16#32
  let v3 : BitVec 32 := Scalar.addi c16_i32 v2
  let c2_i32_0 : BitVec 32 := 2#32
  let v4 : BitVec 32 := Scalar.subi v0 c2_i32_0
  let c15_i32 : BitVec 32 := 15#32
  let v5 : BitVec 32 := Scalar.subi c15_i32 v4
  let v6 : BitVec 32 := Scalar.select v1 v3 v5
  let c0_i32 : BitVec 32 := 0#32
  let c0_i32_1 : BitVec 32 := 0#32
  let c0_i32_2 : BitVec 32 := 0#32
  ![c0_i32.toNat, v6.toNat, c0_i32_1.toNat]

def cc0_transform_17 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c1_i32 : BitVec 32 := 1#32
  let v2 : BitVec 32 := Scalar.subi c1_i32 v0
  let c16_i32 : BitVec 32 := 16#32
  let v3 : BitVec 32 := Scalar.addi c16_i32 v2
  let c2_i32_0 : BitVec 32 := 2#32
  let v4 : BitVec 32 := Scalar.subi v0 c2_i32_0
  let c15_i32 : BitVec 32 := 15#32
  let v5 : BitVec 32 := Scalar.subi c15_i32 v4
  let v6 : BitVec 32 := Scalar.select v1 v3 v5
  let c0_i32 : BitVec 32 := 0#32
  let c0_i32_1 : BitVec 32 := 0#32
  let c0_i32_2 : BitVec 32 := 0#32
  ![c0_i32.toNat, v6.toNat, c0_i32_1.toNat]

def cc0_transform_18 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c1_i32 : BitVec 32 := 1#32
  let v2 : BitVec 32 := Scalar.subi c1_i32 v0
  let c16_i32 : BitVec 32 := 16#32
  let v3 : BitVec 32 := Scalar.addi c16_i32 v2
  let c2_i32_0 : BitVec 32 := 2#32
  let v4 : BitVec 32 := Scalar.subi v0 c2_i32_0
  let c15_i32 : BitVec 32 := 15#32
  let v5 : BitVec 32 := Scalar.subi c15_i32 v4
  let v6 : BitVec 32 := Scalar.select v1 v3 v5
  let c0_i32 : BitVec 32 := 0#32
  let c0_i32_1 : BitVec 32 := 0#32
  let c0_i32_2 : BitVec 32 := 0#32
  ![c0_i32.toNat, v6.toNat, c0_i32_1.toNat]

def cc0_transform_19 (i : grid0.Coords) : Fin 3 → Nat :=
  let arg0 : BitVec 32 := BitVec.ofNat 32 (i 0).val
  let c17_i32 : BitVec 32 := 17#32
  let v0 : BitVec 32 := Scalar.subi c17_i32 arg0
  let c2_i32 : BitVec 32 := 2#32
  let v1 : BitVec 1 := Scalar.cmpi .slt v0 c2_i32
  let c1_i32 : BitVec 32 := 1#32
  let v2 : BitVec 32 := Scalar.subi c1_i32 v0
  let c16_i32 : BitVec 32 := 16#32
  let v3 : BitVec 32 := Scalar.addi c16_i32 v2
  let c2_i32_0 : BitVec 32 := 2#32
  let v4 : BitVec 32 := Scalar.subi v0 c2_i32_0
  let c15_i32 : BitVec 32 := 15#32
  let v5 : BitVec 32 := Scalar.subi c15_i32 v4
  let v6 : BitVec 32 := Scalar.select v1 v3 v5
  let c0_i32 : BitVec 32 := 0#32
  let c0_i32_1 : BitVec 32 := 0#32
  let c0_i32_2 : BitVec 32 := 0#32
  ![c0_i32.toNat, v6.toNat, c0_i32_1.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel2.lean ====
abbrev S2x2048x1024 : Shape := ⟨3, ![2, 2048, 1024]⟩
abbrev S1024x1024 : Shape := ⟨2, ![1024, 1024]⟩
abbrev S1x1024 : Shape := ⟨2, ![1, 1024]⟩
abbrev S2x2048x512 : Shape := ⟨3, ![2, 2048, 512]⟩
abbrev S1024x512 : Shape := ⟨2, ![1024, 512]⟩
abbrev S1x512 : Shape := ⟨2, ![1, 512]⟩
abbrev S1x2048x512 : Shape := ⟨3, ![1, 2048, 512]⟩
abbrev S2048x512 : Shape := ⟨2, ![2048, 512]⟩
abbrev S1x2048x1024 : Shape := ⟨3, ![1, 2048, 1024]⟩
abbrev S2048x1024 : Shape := ⟨2, ![2048, 1024]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S1024x1024, .bf16⟩
  | .hbm, ⟨3, _⟩ => ⟨S1x1024, .f32⟩
  | .local _ .vmem, ⟨0, _⟩ => ⟨S2x2048x1024, .bf16⟩
  | .local _ .vmem, ⟨1, _⟩ => ⟨S2x2048x512, .bf16⟩
  | .local _ .vmem, ⟨2, _⟩ => ⟨S2x2048x512, .bf16⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2x2048x1024 : Shape := ⟨3, ![2, 2048, 1024]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S_, .f32⟩
  | .hbm, ⟨3, _⟩ => ⟨S1024x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S2x2048x1024, .f32⟩
  | .hbm, ⟨11, _⟩ => ⟨S_, .f32⟩
  | .hbm, ⟨12, _⟩ => ⟨S1024, .f32⟩
  | .hbm, ⟨13, _⟩ => ⟨S1x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel3.lean ====
abbrev S2x2560x1024 : Shape := ⟨3, ![2, 2560, 1024]⟩
abbrev S2x2048x2048 : Shape := ⟨3, ![2, 2048, 2048]⟩
abbrev S2048x1024 : Shape := ⟨2, ![2048, 1024]⟩
abbrev S1x2048 : Shape := ⟨2, ![1, 2048]⟩
abbrev S2x2048x1024 : Shape := ⟨3, ![2, 2048, 1024]⟩
abbrev S2x2048x512 : Shape := ⟨3, ![2, 2048, 512]⟩
abbrev S512x1024 : Shape := ⟨2, ![512, 1024]⟩
abbrev S1x512 : Shape := ⟨2, ![1, 512]⟩
abbrev S1x2048x512 : Shape := ⟨3, ![1, 2048, 512]⟩
abbrev S2048x512 : Shape := ⟨2, ![2048, 512]⟩
abbrev S1x2048x1024 : Shape := ⟨3, ![1, 2048, 1024]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S2x2560x1024, .bf16⟩
  | .hbm, ⟨1, _⟩ => ⟨S2x2048x2048, .bf16⟩
  | .hbm, ⟨2, _⟩ => ⟨S2048x1024, .bf16⟩
  | .hbm, ⟨3, _⟩ => ⟨S1x2048, .f32⟩
  | .local _ .vmem, ⟨0, _⟩ => ⟨S2x2048x1024, .bf16⟩
  | .local _ .vmem, ⟨1, _⟩ => ⟨S2x2048x512, .bf16⟩
  | .local _ .vmem, ⟨2, _⟩ => ⟨S2x2048x512, .bf16⟩
  | .local _ .vmem, ⟨3, _⟩ => ⟨S512x1024, .bf16⟩
  | .local _ .vmem, ⟨4, _⟩ => ⟨S512x1024, .bf16⟩
  | .local _ .vmem, ⟨5, _⟩ => ⟨S1x512, .f32⟩
  | .local _ .vmem, ⟨6, _⟩ => ⟨S1x512, .f32⟩
  | _, _ => ⟨S2x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x2560x1024 : Shape := ⟨3, ![2, 2560, 1024]⟩
abbrev S2x2048x2048 : Shape := ⟨3, ![2, 2048, 2048]⟩
abbrev S2x2048x1024 : Shape := ⟨3, ![2, 2048, 1024]⟩
abbrev S_ : Shape := ⟨0, ![]⟩
abbrev S1024x2048 : Shape := ⟨2, ![1024, 2048]⟩
abbrev S2048 : Shape := ⟨1, ![2048]⟩
abbrev S1x1x2048 : Shape := ⟨3, ![1, 1, 2048]⟩
abbrev S2048x1024 : Shape := ⟨2, ![2048, 1024]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x2560x1024, .bf16⟩
  | .hbm, ⟨1, _⟩ => ⟨S2x2048x2048, .bf16⟩
  | .hbm, ⟨2, _⟩ => ⟨S2x2048x1024, .bf16⟩
  | .hbm, ⟨3, _⟩ => ⟨S_, .f32⟩
  | .hbm, ⟨4, _⟩ => ⟨S1024x2048, .f32⟩
  | .hbm, ⟨5, _⟩ => ⟨S_, .f32⟩
  | .hbm, ⟨6, _⟩ => ⟨S2048, .f32⟩
  | .hbm, ⟨7, _⟩ => ⟨S2x2048x1024, .f32⟩
  | .hbm, ⟨8, _⟩ => ⟨S2x2048x2048, .f32⟩
  | .hbm, ⟨9, _⟩ => ⟨S1x1x2048, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .hbm, ⟨13, _⟩ => ⟨S_, .f32⟩
  | .hbm, ⟨14, _⟩ => ⟨S2048, .f32⟩
  | .hbm, ⟨15, _⟩ => ⟨S1x1x2048, .f32⟩
  | .hbm, ⟨16, _⟩ => ⟨S_, .f32⟩
  | .hbm, ⟨17, _⟩ => ⟨S2048, .f32⟩
  | .hbm, ⟨18, _⟩ => ⟨S2048x1024, .f32⟩
  | .hbm, ⟨19, _⟩ => ⟨S1024x2048, .f32⟩
  | .hbm, ⟨20, _⟩ => ⟨S2048x1024, .f32⟩
  | .hbm, ⟨21, _⟩ => ⟨S2048x1024, .bf16⟩
  | .hbm, ⟨22, _⟩ => ⟨S1x2048, .f32⟩
  | _, _ => ⟨S2x2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S2x2560x1024 : Shape := ⟨3, ![2, 2560, 1024]⟩
abbrev S2x2048x4096 : Shape := ⟨3, ![2, 2048, 4096]⟩
abbrev S4096x1024 : Shape := ⟨2, ![4096, 1024]⟩
abbrev S1x4096 : Shape := ⟨2, ![1, 4096]⟩
abbrev S2x2048x1024 : Shape := ⟨3, ![2, 2048, 1024]⟩
abbrev S2x2048x512 : Shape := ⟨3, ![2, 2048, 512]⟩
abbrev S512x1024 : Shape := ⟨2, ![512, 1024]⟩
abbrev S1x512 : Shape := ⟨2, ![1, 512]⟩
abbrev S1x2048x512 : Shape := ⟨3, ![1, 2048, 512]⟩
abbrev S2048x512 : Shape := ⟨2, ![2048, 512]⟩
abbrev S1x2048x1024 : Shape := ⟨3, ![1, 2048, 1024]⟩
abbrev S2048x1024 : Shape := ⟨2, ![2048, 1024]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S2x2560x1024, .bf16⟩
  | .hbm, ⟨1, _⟩ => ⟨S2x2048x4096, .bf16⟩
  | .hbm, ⟨2, _⟩ => ⟨S4096x1024, .bf16⟩
  | .hbm, ⟨3, _⟩ => ⟨S1x4096, .f32⟩
  | .local _ .vmem, ⟨0, _⟩ => ⟨S2x2048x1024, .bf16⟩
  | .local _ .vmem, ⟨1, _⟩ => ⟨S2x2048x512, .bf16⟩
  | .local _ .vmem, ⟨2, _⟩ => ⟨S2x2048x512, .bf16⟩
  | .local _ .vmem, ⟨3, _⟩ => ⟨S512x1024, .bf16⟩
  | .local _ .vmem, ⟨4, _⟩ => ⟨S512x1024, .bf16⟩
  | .local _ .vmem, ⟨5, _⟩ => ⟨S1x512, .f32⟩
  | .local _ .vmem, ⟨6, _⟩ => ⟨S1x512, .f32⟩
  | _, _ => ⟨S2x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x2560x1024 : Shape := ⟨3, ![2, 2560, 1024]⟩
abbrev S2x2048x4096 : Shape := ⟨3, ![2, 2048, 4096]⟩
abbrev S2x2048x1024 : Shape := ⟨3, ![2, 2048, 1024]⟩
abbrev S_ : Shape := ⟨0, ![]⟩
abbrev S1024x4096 : Shape := ⟨2, ![1024, 4096]⟩
abbrev S4096 : Shape := ⟨1, ![4096]⟩
abbrev S1x1x4096 : Shape := ⟨3, ![1, 1, 4096]⟩
abbrev S4096x1024 : Shape := ⟨2, ![4096, 1024]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x2560x1024, .bf16⟩
  | .hbm, ⟨1, _⟩ => ⟨S2x2048x4096, .bf16⟩
  | .hbm, ⟨2, _⟩ => ⟨S2x2048x1024, .bf16⟩
  | .hbm, ⟨3, _⟩ => ⟨S_, .f32⟩
  | .hbm, ⟨4, _⟩ => ⟨S1024x4096, .f32⟩
  | .hbm, ⟨5, _⟩ => ⟨S_, .f32⟩
  | .hbm, ⟨6, _⟩ => ⟨S4096, .f32⟩
  | .hbm, ⟨7, _⟩ => ⟨S2x2048x1024, .f32⟩
  | .hbm, ⟨8, _⟩ => ⟨S2x2048x4096, .f32⟩
  | .hbm, ⟨9, _⟩ => ⟨S1x1x4096, .f32⟩
  | .hbm, ⟨10, _⟩ => ⟨S2x2048x4096, .f32⟩
  | .hbm, ⟨11, _⟩ => ⟨S2x2048x4096, .f32⟩
  | .hbm, ⟨12, _⟩ => ⟨S2x2048x4096, .f32⟩
  | .hbm, ⟨13, _⟩ => ⟨S_, .f32⟩
  | .hbm, ⟨14, _⟩ => ⟨S4096, .f32⟩
  | .hbm, ⟨15, _⟩ => ⟨S1x1x4096, .f32⟩
  | .hbm, ⟨16, _⟩ => ⟨S_, .f32⟩
  | .hbm, ⟨17, _⟩ => ⟨S4096, .f32⟩
  | .hbm, ⟨18, _⟩ => ⟨S4096x1024, .f32⟩
  | .hbm, ⟨19, _⟩ => ⟨S1024x4096, .f32⟩
  | .hbm, ⟨20, _⟩ => ⟨S4096x1024, .f32⟩
  | .hbm, ⟨21, _⟩ => ⟨S4096x1024, .bf16⟩
  | .hbm, ⟨22, _⟩ => ⟨S1x4096, .f32⟩
  | _, _ => ⟨S2x2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S5120x1024 : Shape := ⟨2, ![5120, 1024]⟩
abbrev S5120x2176 : Shape := ⟨2, ![5120, 2176]⟩
abbrev S2176x1024 : Shape := ⟨2, ![2176, 1024]⟩
abbrev S1x2176 : Shape := ⟨2, ![1, 2176]⟩
abbrev S1024x1024 : Shape := ⟨2, ![1024, 1024]⟩
abbrev S1024x2176 : Shape := ⟨2, ![1024, 2176]⟩
abbrev S2176 : Shape := ⟨1, ![2176]⟩

abbrev nBuf : Space → Nat
  | .hbm => 4
  | .vmem => 7
  | .smem => 0
  | _ => 0

abbrev bufTy : (tb : Table) → Fin (tcTables nBuf tb) → BufTy
  | .hbm, ⟨0, _⟩ => ⟨S5120x1024, .bf16⟩
  | .hbm, ⟨1, _⟩ => ⟨S5120x2176, .bf16⟩
  | .hbm, ⟨2, _⟩ => ⟨S2176x1024, .bf16⟩
  | .hbm, ⟨3, _⟩ => ⟨S1x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S2176x1024, .bf16⟩
  | .local _ .vmem, ⟨5, _⟩ => ⟨S1x2176, .f32⟩
  | .local _ .vmem, ⟨6, _⟩ => ⟨S2176x1024, .f32⟩
  | _, _ => ⟨S5120x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 5], ![false, false]⟩

def k0_cond3 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_7 : BitVec 32 := 0#32
  let v14 : BitVec 1 := Scalar.cmpi .ne v13 c0_i32_7
  v14

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg1 : BitVec 32 := BitVec.ofNat 32 (i 1).val
  let c0_i32_5 : BitVec 32 := 0#32
  let v9 : BitVec 1 := Scalar.cmpi .sgt arg1 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference5Ideal.lean ====
abbrev S5120x1024 : Shape := ⟨2, ![5120, 1024]⟩
abbrev S5120x2176 : Shape := ⟨2, ![5120, 2176]⟩
abbrev S_ : Shape := ⟨0, ![]⟩
abbrev S1024x2176 : Shape := ⟨2, ![1024, 2176]⟩
abbrev S2176 : Shape := ⟨1, ![2176]⟩
abbrev S1x2176 : Shape := ⟨2, ![1, 2176]⟩
abbrev S2176x1024 : Shape := ⟨2, ![2176, 1024]⟩

abbrev nBuf : Space → Nat
  | .hbm => 22
  | .vmem => 0
  | .smem => 0
  | _ => 0

abbrev bufTy : (tb : Table) → Fin (tcTables nBuf tb) → BufTy
  | .hbm, ⟨0, _⟩ => ⟨S5120x1024, .bf16⟩
  | .hbm, ⟨1, _⟩ => ⟨S5120x2176, .bf16⟩
  | .hbm, ⟨2, _⟩ => ⟨S_, .f32⟩
  | .hbm, ⟨3, _⟩ => ⟨S1024x2176, .f32⟩
  | .hbm, ⟨4, _⟩ => ⟨S_, .f32⟩
  | .hbm, ⟨5, _⟩ => ⟨S2176, .f32⟩
  | .hbm, ⟨6, _⟩ => ⟨S5120x1024, .f32⟩
  | .hbm, ⟨7, _⟩ => ⟨S5120x2176, .f32⟩
  | .hbm, ⟨8, _⟩ => ⟨S1x2176, .f32⟩
  | .hbm, ⟨9, _⟩ => ⟨S5120x2176, .f32⟩
  | .hbm, ⟨10, _⟩ => ⟨S5120x2176, .f32⟩
  | .hbm, ⟨11, _⟩ => ⟨S5120x2176, .f32⟩
  | .hbm, ⟨12, _⟩ => ⟨S_, .f32⟩
  | .hbm, ⟨13, _⟩ => ⟨S2176, .f32⟩
  | .hbm, ⟨14, _⟩ => ⟨S1x2176, .f32⟩
  | .hbm, ⟨15, _⟩ => ⟨S_, .f32⟩
  | .hbm, ⟨16, _⟩ => ⟨S2176, .f32⟩
  | .hbm, ⟨17, _⟩ => ⟨S2176x1024, .f32⟩
  | .hbm, ⟨18, _⟩ => ⟨S1024x2176, .f32⟩
  | .hbm, ⟨19, _⟩ => ⟨S2176x1024, .f32⟩
  | .hbm, ⟨20, _⟩ => ⟨S2176x1024, .bf16⟩
  | .hbm, ⟨21, _⟩ => ⟨S1x2176, .f32⟩
  | _, _ => ⟨S5120x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S4096x2048 : Shape := ⟨2, ![4096, 2048]⟩
abbrev S1024x6144 : Shape := ⟨2, ![1024, 6144]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x6144, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2048 : Shape := ⟨2, ![4096, 2048]⟩
abbrev S1024x6144 : Shape := ⟨2, ![1024, 6144]⟩
abbrev S_ : Shape := ⟨0, ![]⟩
abbrev S4096x1024 : Shape := ⟨2, ![4096, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x6144, .bf16⟩
  | .hbm, ⟨2, _⟩ => ⟨S_, .f32⟩
  | .hbm, ⟨3, _⟩ => ⟨S4096x1024, .f32⟩
  | .hbm, ⟨4, _⟩ => ⟨S1024x2048, .bf16⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x4096 : Shape := ⟨2, ![4096, 4096]⟩
abbrev S1024x6144 : Shape := ⟨2, ![1024, 6144]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x6144, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x4096 : Shape := ⟨2, ![4096, 4096]⟩
abbrev S1024x6144 : Shape := ⟨2, ![1024, 6144]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x6144, .bf16⟩
  | .hbm, ⟨2, _⟩ => ⟨S_, .f32⟩
  | .hbm, ⟨3, _⟩ => ⟨S4096x1024, .f32⟩
  | .hbm, ⟨4, _⟩ => ⟨S1024x4096, .bf16⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S5120x2176 : Shape := ⟨2, ![5120, 2176]⟩
abbrev S1024x2176 : Shape := ⟨2, ![1024, 2176]⟩
abbrev S5120x1024 : Shape := ⟨2, ![5120, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S5120x2176, .bf16⟩
  | .hbm, ⟨1, _⟩ => ⟨S1024x2176, .bf16⟩
  | .hbm, ⟨2, _⟩ => ⟨S5120x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x1024, .bf16⟩
  | .local _ .vmem, ⟨4, _⟩ => ⟨S1024x1024, .bf16⟩
  | _, _ => ⟨S5120x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S5120x2176 : Shape := ⟨2, ![5120, 2176]⟩
abbrev S1024x2176 : Shape := ⟨2, ![1024, 2176]⟩
abbrev S_ : Shape := ⟨0, ![]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S5120x2176, .bf16⟩
  | .hbm, ⟨1, _⟩ => ⟨S1024x2176, .bf16⟩
  | .hbm, ⟨2, _⟩ => ⟨S_, .f32⟩
  | .hbm, ⟨3, _⟩ => ⟨S5120x1024, .f32⟩
  | .hbm, ⟨4, _⟩ => ⟨S1024x2176, .f32⟩
  | .hbm, ⟨5, _⟩ => ⟨S5120x2176, .f32⟩
  | .hbm, ⟨6, _⟩ => ⟨S5120x2176, .f32⟩
  | .hbm, ⟨7, _⟩ => ⟨S5120x1024, .f32⟩
  | .hbm, ⟨8, _⟩ => ⟨S5120x1024, .bf16⟩
  | _, _ => ⟨S5120x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2x2560x1024 : Shape := ⟨3, ![2, 2560, 1024]⟩
abbrev S1024x6144 : Shape := ⟨2, ![1024, 6144]⟩
abbrev S1x6144 : Shape := ⟨2, ![1, 6144]⟩
abbrev S4096x6144 : Shape := ⟨2, ![4096, 6144]⟩
abbrev S1x1024x1024 : Shape := ⟨3, ![1, 1024, 1024]⟩
abbrev S1024x2048 : Shape := ⟨2, ![1024, 2048]⟩
abbrev S1x2048 : Shape := ⟨2, ![1, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2x2560x1024, .bf16⟩
  | .hbm, ⟨1, _⟩ => ⟨S1024x6144, .bf16⟩
  | .hbm, ⟨2, _⟩ => ⟨S1x6144, .f32⟩
  | .hbm, ⟨3, _⟩ => ⟨S4096x6144, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S2x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2x2560x1024 : Shape := ⟨3, ![2, 2560, 1024]⟩
abbrev S1024x6144 : Shape := ⟨2, ![1024, 6144]⟩
abbrev S1x6144 : Shape := ⟨2, ![1, 6144]⟩
abbrev S2x2048x1024 : Shape := ⟨3, ![2, 2048, 1024]⟩
abbrev S2x2048x6144 : Shape := ⟨3, ![2, 2048, 6144]⟩
abbrev S6144 : Shape := ⟨1, ![6144]⟩
abbrev S1x1x6144 : Shape := ⟨3, ![1, 1, 6144]⟩
abbrev S4096x6144 : Shape := ⟨2, ![4096, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2x2560x1024, .bf16⟩
  | .hbm, ⟨1, _⟩ => ⟨S1024x6144, .bf16⟩
  | .hbm, ⟨2, _⟩ => ⟨S1x6144, .f32⟩
  | .hbm, ⟨3, _⟩ => ⟨S2x2048x1024, .bf16⟩
  | .hbm, ⟨4, _⟩ => ⟨S2x2048x1024, .f32⟩
  | .hbm, ⟨5, _⟩ => ⟨S1024x6144, .f32⟩
  | .hbm, ⟨6, _⟩ => ⟨S2x2048x6144, .f32⟩
  | .hbm, ⟨7, _⟩ => ⟨S6144, .f32⟩
  | .hbm, ⟨8, _⟩ => ⟨S1x1x6144, .f32⟩
  | .hbm, ⟨9, _⟩ => ⟨S2x2048x6144, .f32⟩
  | .hbm, ⟨10, _⟩ => ⟨S2x2048x6144, .f32⟩
  | .hbm, ⟨11, _⟩ => ⟨S4096x6144, .f32⟩
  | _, _ => ⟨S2x2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S5120x1024 : Shape := ⟨2, ![5120, 1024]⟩
abbrev S1024x2176 : Shape := ⟨2, ![1024, 2176]⟩
abbrev S1x2176 : Shape := ⟨2, ![1, 2176]⟩
abbrev S128x1024 : Shape := ⟨2, ![128, 1024]⟩
abbrev S1x1024 : Shape := ⟨2, ![1, 1024]⟩
abbrev S5120x1152 : Shape := ⟨2, ![5120, 1152]⟩
abbrev S1024x1024 : Shape := ⟨2, ![1024, 1024]⟩
abbrev S1024x1152 : Shape := ⟨2, ![1024, 1152]⟩
abbrev S1024x128 : Shape := ⟨2, ![1024, 128]⟩

abbrev nBuf : Space → Nat
  | .hbm => 8
  | .vmem => 12
  | .smem => 0
  | _ => 0

abbrev bufTy : (tb : Table) → Fin (tcTables nBuf tb) → BufTy
  | .hbm, ⟨0, _⟩ => ⟨S5120x1024, .bf16⟩
  | .hbm, ⟨1, _⟩ => ⟨S1024x2176, .bf16⟩
  | .hbm, ⟨2, _⟩ => ⟨S1x2176, .f32⟩
  | .hbm, ⟨3, _⟩ => ⟨S128x1024, .f32⟩
  | .hbm, ⟨4, _⟩ => ⟨S1x1024, .f32⟩
  | .hbm, ⟨5, _⟩ => ⟨S5120x1152, .f32⟩
  | .hbm, ⟨6, _⟩ => ⟨S5120x1024, .bf16⟩
  | .hbm, ⟨7, _⟩ => ⟨S5120x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1x2176, .f32⟩
  | .local _ .vmem, ⟨4, _⟩ => ⟨S128x1024, .f32⟩
  | .local _ .vmem, ⟨5, _⟩ => ⟨S1x1024, .f32⟩
  | .local _ .vmem, ⟨6, _⟩ => ⟨S1024x1152, .f32⟩
  | .local _ .vmem, ⟨7, _⟩ => ⟨S1024x1152, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S5120x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S5120x1024 : Shape := ⟨2, ![5120, 1024]⟩
abbrev S1024x2176 : Shape := ⟨2, ![1024, 2176]⟩
abbrev S1x2176 : Shape := ⟨2, ![1, 2176]⟩
abbrev S128x1024 : Shape := ⟨2, ![128, 1024]⟩
abbrev S1x1024 : Shape := ⟨2, ![1, 1024]⟩
abbrev S5120x2176 : Shape := ⟨2, ![5120, 2176]⟩
abbrev S2176 : Shape := ⟨1, ![2176]⟩
abbrev S5120x512 : Shape := ⟨2, ![5120, 512]⟩
abbrev S5120x128 : Shape := ⟨2, ![5120, 128]⟩
abbrev S5120x1152 : Shape := ⟨2, ![5120, 1152]⟩
abbrev S1024 : Shape := ⟨1, ![1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S5120x1024, .bf16⟩
  | .hbm, ⟨1, _⟩ => ⟨S1024x2176, .bf16⟩
  | .hbm, ⟨2, _⟩ => ⟨S1x2176, .f32⟩
  | .hbm, ⟨3, _⟩ => ⟨S128x1024, .f32⟩
  | .hbm, ⟨4, _⟩ => ⟨S1x1024, .f32⟩
  | .hbm, ⟨5, _⟩ => ⟨S5120x1024, .f32⟩
  | .hbm, ⟨6, _⟩ => ⟨S1024x2176, .f32⟩
  | .hbm, ⟨7, _⟩ => ⟨S5120x2176, .f32⟩
  | .hbm, ⟨8, _⟩ => ⟨S2176, .f32⟩
  | .hbm, ⟨9, _⟩ => ⟨S1x2176, .f32⟩
  | .hbm, ⟨10, _⟩ => ⟨S5120x2176, .f32⟩
  | .hbm, ⟨11, _⟩ => ⟨S5120x2176, .f32⟩
  | .hbm, ⟨12, _⟩ => ⟨S5120x512, .f32⟩
  | .hbm, ⟨13, _⟩ => ⟨S5120x512, .f32⟩
  | .hbm, ⟨14, _⟩ => ⟨S5120x1024, .f32⟩
  | .hbm, ⟨15, _⟩ => ⟨S5120x128, .f32⟩
  | .hbm, ⟨16, _⟩ => ⟨S5120x1152, .f32⟩
  | .hbm, ⟨17, _⟩ => ⟨S5120x1024, .bf16⟩
  | .hbm, ⟨18, _⟩ => ⟨S1024, .f32⟩
  | .hbm, ⟨19, _⟩ => ⟨S5120x1024, .f32⟩
  | .hbm, ⟨20, _⟩ => ⟨S1x1024, .f32⟩
  | .hbm, ⟨21, _⟩ => ⟨S5120x1024, .f32⟩
  | .hbm, ⟨22, _⟩ => ⟨S5120x1024, .f32⟩
  | .hbm, ⟨23, _⟩ => ⟨S5120x1024, .f32⟩
  | .hbm, ⟨24, _⟩ => ⟨S_, .f32⟩
  | .hbm, ⟨25, _⟩ => ⟨S5120x1024, .f32⟩
  | .hbm, ⟨26, _⟩ => ⟨S5120x1024, .f32⟩
  | .hbm, ⟨27, _⟩ => ⟨S5120x1024, .f32⟩
  | .hbm, ⟨28, _⟩ => ⟨S5120x1024, .f32⟩
  | .hbm, ⟨29, _⟩ => ⟨S5120x1024, .i1⟩
  | .hbm, ⟨30, _⟩ => ⟨S5120x1024, .f32⟩
  | .hbm, ⟨31, _⟩ => ⟨S5120x1024, .f32⟩
  | .hbm, ⟨32, _⟩ => ⟨S5120x1024, .f32⟩
  | .hbm, ⟨33, _⟩ => ⟨S5120x1024, .f32⟩
  | .hbm, ⟨34, _⟩ => ⟨S5120x1024, .f32⟩
  | .hbm, ⟨35, _⟩ => ⟨S5120x1024, .f32⟩
  | .hbm, ⟨36, _⟩ => ⟨S5120x1024, .f32⟩
  | .hbm, ⟨37, _⟩ => ⟨S5120x1024, .f32⟩
  | .hbm, ⟨38, _⟩ => ⟨S5120x1024, .f32⟩
  | .hbm, ⟨39, _⟩ => ⟨S_, .f32⟩
  | .hbm, ⟨40, _⟩ => ⟨S5120x1024, .f32⟩
  | .hbm, ⟨41, _⟩ => ⟨S5120x1024, .f32⟩
  | _, _ => ⟨S5120x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Kernel11.lean ====
abbrev S5120x1152 : Shape := ⟨2, ![5120, 1152]⟩
abbrev S128x1024 : Shape := ⟨2, ![128, 1024]⟩
abbrev S1x1024 : Shape := ⟨2, ![1, 1024]⟩
abbrev S5120x512 : Shape := ⟨2, ![5120, 512]⟩
abbrev S5120x1024 : Shape := ⟨2, ![5120, 1024]⟩
abbrev S5120x2176 : Shape := ⟨2, ![5120, 2176]⟩
abbrev S256x128 : Shape := ⟨2, ![256, 128]⟩
abbrev S256x512 : Shape := ⟨2, ![256, 512]⟩
abbrev S256x1024 : Shape := ⟨2, ![256, 1024]⟩
abbrev S256x2176 : Shape := ⟨2, ![256, 2176]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S5120x1152, .f32⟩
  | .hbm, ⟨1, _⟩ => ⟨S128x1024, .f32⟩
  | .hbm, ⟨2, _⟩ => ⟨S1x1024, .f32⟩
  | .hbm, ⟨3, _⟩ => ⟨S5120x512, .bf16⟩
  | .hbm, ⟨4, _⟩ => ⟨S5120x512, .bf16⟩
  | .hbm, ⟨5, _⟩ => ⟨S5120x1024, .bf16⟩
  | .hbm, ⟨6, _⟩ => ⟨S5120x512, .f32⟩
  | .hbm, ⟨7, _⟩ => ⟨S5120x512, .bf16⟩
  | .hbm, ⟨8, _⟩ => ⟨S5120x512, .bf16⟩
  | .hbm, ⟨9, _⟩ => ⟨S5120x1024, .bf16⟩
  | .hbm, ⟨10, _⟩ => ⟨S5120x512, .f32⟩
  | .hbm, ⟨11, _⟩ => ⟨S5120x2176, .bf16⟩
  | .hbm, ⟨12, _⟩ => ⟨S128x1024, .f32⟩
  | .hbm, ⟨13, _⟩ => ⟨S1x1024, .f32⟩
  | .local _ .vmem, ⟨0, _⟩ => ⟨S256x128, .f32⟩
  | .local _ .vmem, ⟨1, _⟩ => ⟨S256x128, .f32⟩
  | .local _ .vmem, ⟨2, _⟩ => ⟨S128x1024, .f32⟩
  | .local _ .vmem, ⟨3, _⟩ => ⟨S1x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x1024, .bf16⟩
  | .local _ .vmem, ⟨17, _⟩ => ⟨S256x1024, .bf16⟩
  | .local _ .vmem, ⟨18, _⟩ => ⟨S256x512, .f32⟩
  | .local _ .vmem, ⟨19, _⟩ => ⟨S256x512, .f32⟩
  | .local _ .vmem, ⟨20, _⟩ => ⟨S256x2176, .bf16⟩
  | .local _ .vmem, ⟨21, _⟩ => ⟨S256x2176, .bf16⟩
  | .local _ .vmem, ⟨22, _⟩ => ⟨S128x1024, .f32⟩
  | .local _ .vmem, ⟨23, _⟩ => ⟨S1x1024, .f32⟩
  | _, _ => ⟨S5120x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2176 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference11Ideal.lean ====
abbrev S5120x1152 : Shape := ⟨2, ![5120, 1152]⟩
abbrev S128x1024 : Shape := ⟨2, ![128, 1024]⟩
abbrev S1x1024 : Shape := ⟨2, ![1, 1024]⟩
abbrev S5120x512 : Shape := ⟨2, ![5120, 512]⟩
abbrev S5120x1024 : Shape := ⟨2, ![5120, 1024]⟩
abbrev S2560 : Shape := ⟨1, ![2560]⟩
abbrev S_ : Shape := ⟨0, ![]⟩
abbrev S2x2560 : Shape := ⟨2, ![2, 2560]⟩
abbrev S5120x1 : Shape := ⟨2, ![5120, 1]⟩
abbrev S5120x128 : Shape := ⟨2, ![5120, 128]⟩
abbrev S1024 : Shape := ⟨1, ![1024]⟩
abbrev S1024x128 : Shape := ⟨2, ![1024, 128]⟩
abbrev S5120x2176 : Shape := ⟨2, ![5120, 2176]⟩

abbrev nBuf : Space → Nat
  | .hbm => 126
  | .vmem => 0
  | .smem => 0
  | _ => 0

abbrev bufTy : (tb : Table) → Fin (tcTables nBuf tb) → BufTy
  | .hbm, ⟨0, _⟩ => ⟨S5120x1152, .f32⟩
  | .hbm, ⟨1, _⟩ => ⟨S128x1024, .f32⟩
  | .hbm, ⟨2, _⟩ => ⟨S1x1024, .f32⟩
  | .hbm, ⟨3, _⟩ => ⟨S5120x512, .bf16⟩
  | .hbm, ⟨4, _⟩ => ⟨S5120x512, .bf16⟩
  | .hbm, ⟨5, _⟩ => ⟨S5120x1024, .bf16⟩
  | .hbm, ⟨6, _⟩ => ⟨S5120x512, .f32⟩
  | .hbm, ⟨7, _⟩ => ⟨S5120x512, .bf16⟩
  | .hbm, ⟨8, _⟩ => ⟨S5120x512, .bf16⟩
  | .hbm, ⟨9, _⟩ => ⟨S5120x1024, .bf16⟩
  | .hbm, ⟨10, _⟩ => ⟨S5120x512, .f32⟩
  | .hbm, ⟨11, _⟩ => ⟨S2560, .i32⟩
  | .hbm, ⟨12, _⟩ => ⟨S_, .i32⟩
  | .hbm, ⟨13, _⟩ => ⟨S2560, .i32⟩
  | .hbm, ⟨14, _⟩ => ⟨S2560, .i1⟩
  | .hbm, ⟨15, _⟩ => ⟨S2x2560, .i1⟩
  | .hbm, ⟨16, _⟩ => ⟨S5120x1, .i1⟩
  | .hbm, ⟨17, _⟩ => ⟨S_, .f32⟩
  | .hbm, ⟨18, _⟩ => ⟨S_, .f32⟩
  | .hbm, ⟨19, _⟩ => ⟨S5120x512, .i1⟩
  | .hbm, ⟨20, _⟩ => ⟨S5120x512, .f32⟩
  | .hbm, ⟨21, _⟩ => ⟨S5120x512, .f32⟩
  | .hbm, ⟨22, _⟩ => ⟨S_, .f32⟩
  | .hbm, ⟨23, _⟩ => ⟨S_, .f32⟩
  | .hbm, ⟨24, _⟩ => ⟨S5120x512, .i1⟩
  | .hbm, ⟨25, _⟩ => ⟨S5120x512, .f32⟩
  | .hbm, ⟨26, _⟩ => ⟨S5120x512, .f32⟩
  | .hbm, ⟨27, _⟩ => ⟨S5120x1024, .f32⟩
  | .hbm, ⟨28, _⟩ => ⟨S5120x128, .f32⟩
  | .hbm, ⟨29, _⟩ => ⟨S1024, .f32⟩
  | .hbm, ⟨30, _⟩ => ⟨S5120x1024, .f32⟩
  | .hbm, ⟨31, _⟩ => ⟨S1x1024, .f32⟩
  | .hbm, ⟨32, _⟩ => ⟨S5120x1024, .f32⟩
  | .hbm, ⟨33, _⟩ => ⟨S5120x1024, .f32⟩
  | .hbm, ⟨34, _⟩ => ⟨S5120x1024, .f32⟩
  | .hbm, ⟨35, _⟩ => ⟨S_, .f32⟩
  | .hbm, ⟨36, _⟩ => ⟨S5120x1024, .f32⟩
  | .hbm, ⟨37, _⟩ => ⟨S5120x1024, .f32⟩
  | .hbm, ⟨38, _⟩ => ⟨S5120x1024, .f32⟩
  | .hbm, ⟨39, _⟩ => ⟨S5120x1024, .f32⟩
  | .hbm, ⟨40, _⟩ => ⟨S5120x1024, .i1⟩
  | .hbm, ⟨41, _⟩ => ⟨S5120x1024, .f32⟩
  | .hbm, ⟨42, _⟩ => ⟨S5120x1024, .f32⟩
  | .hbm, ⟨43, _⟩ => ⟨S5120x1024, .f32⟩
  | .hbm, ⟨44, _⟩ => ⟨S5120x1024, .f32⟩
  | .hbm, ⟨45, _⟩ => ⟨S5120x1024, .f32⟩
  | .hbm, ⟨46, _⟩ => ⟨S5120x1024, .f32⟩
  | .hbm, ⟨47, _⟩ => ⟨S5120x1024, .f32⟩
  | .hbm, ⟨48, _⟩ => ⟨S5120x1024, .f32⟩
  | .hbm, ⟨49, _⟩ => ⟨S_, .f32⟩
  | .hbm, ⟨50, _⟩ => ⟨S5120x1024, .f32⟩
  | .hbm, ⟨51, _⟩ => ⟨S5120x1024, .i1⟩
  | .hbm, ⟨52, _⟩ => ⟨S_, .f32⟩
  | .hbm, ⟨53, _⟩ => ⟨S5120x1024, .f32⟩
  | .hbm, ⟨54, _⟩ => ⟨S5120x1024, .f32⟩
  | .hbm, ⟨55, _⟩ => ⟨S_, .f32⟩
  | .hbm, ⟨56, _⟩ => ⟨S5120x1024, .f32⟩
  | .hbm, ⟨57, _⟩ => ⟨S5120x1024, .i1⟩
  | .hbm, ⟨58, _⟩ => ⟨S_, .f32⟩
  | .hbm, ⟨59, _⟩ => ⟨S5120x1024, .f32⟩
  | .hbm, ⟨60, _⟩ => ⟨S5120x1024, .f32⟩
  | .hbm, ⟨61, _⟩ => ⟨S5120x1024, .f32⟩
  | .hbm, ⟨62, _⟩ => ⟨S5120x1024, .f32⟩
  | .hbm, ⟨63, _⟩ => ⟨S_, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S5120x1024, .f32⟩
  | .hbm, ⟨71, _⟩ => ⟨S5120x1024, .i1⟩
  | .hbm, ⟨72, _⟩ => ⟨S_, .f32⟩
  | .hbm, ⟨73, _⟩ => ⟨S5120x1024, .f32⟩
  | .hbm, ⟨74, _⟩ => ⟨S5120x1024, .f32⟩
  | .hbm, ⟨75, _⟩ => ⟨S5120x1024, .f32⟩
  | .hbm, ⟨76, _⟩ => ⟨S5120x1024, .f32⟩
  | .hbm, ⟨77, _⟩ => ⟨S5120x1024, .f32⟩
  | .hbm, ⟨78, _⟩ => ⟨S_, .f32⟩
  | .hbm, ⟨79, _⟩ => ⟨S5120x1024, .f32⟩
  | .hbm, ⟨80, _⟩ => ⟨S5120x1024, .f32⟩
  | .hbm, ⟨81, _⟩ => ⟨S5120x1024, .f32⟩
  | .hbm, ⟨82, _⟩ => ⟨S_, .f32⟩
  | .hbm, ⟨83, _⟩ => ⟨S5120x1024, .f32⟩
  | .hbm, ⟨84, _⟩ => ⟨S5120x1024, .f32⟩
  | .hbm, ⟨85, _⟩ => ⟨S_, .f32⟩
  | .hbm, ⟨86, _⟩ => ⟨S5120x1024, .f32⟩
  | .hbm, ⟨87, _⟩ => ⟨S5120x1024, .f32⟩
  | .hbm, ⟨88, _⟩ => ⟨S5120x1024, .f32⟩
  | .hbm, ⟨89, _⟩ => ⟨S5120x1024, .f32⟩
  | .hbm, ⟨90, _⟩ => ⟨S5120x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S1024, .f32⟩
  | .hbm, ⟨96, _⟩ => ⟨S1024x128, .f32⟩
  | .hbm, ⟨97, _⟩ => ⟨S128x1024, .f32⟩
  | .hbm, ⟨98, _⟩ => ⟨S5120x128, .f32⟩
  | .hbm, ⟨99, _⟩ => ⟨S5120x512, .f32⟩
  | .hbm, ⟨100, _⟩ => ⟨S5120x512, .f32⟩
  | .hbm, ⟨101, _⟩ => ⟨S5120x512, .f32⟩
  | .hbm, ⟨102, _⟩ => ⟨S_, .f32⟩
  | .hbm, ⟨103, _⟩ => ⟨S_, .f32⟩
  | .hbm, ⟨104, _⟩ => ⟨S5120x512, .i1⟩
  | .hbm, ⟨105, _⟩ => ⟨S5120x512, .f32⟩
  | .hbm, ⟨106, _⟩ => ⟨S5120x512, .f32⟩
  | .hbm, ⟨107, _⟩ => ⟨S5120x512, .f32⟩
  | .hbm, ⟨108, _⟩ => ⟨S5120x512, .f32⟩
  | .hbm, ⟨109, _⟩ => ⟨S5120x512, .f32⟩
  | .hbm, ⟨110, _⟩ => ⟨S_, .f32⟩
  | .hbm, ⟨111, _⟩ => ⟨S_, .f32⟩
  | .hbm, ⟨112, _⟩ => ⟨S5120x512, .i1⟩
  | .hbm, ⟨113, _⟩ => ⟨S5120x512, .f32⟩
  | .hbm, ⟨114, _⟩ => ⟨S5120x512, .f32⟩
  | .hbm, ⟨115, _⟩ => ⟨S5120x1024, .f32⟩
  | .hbm, ⟨116, _⟩ => ⟨S5120x1024, .f32⟩
  | .hbm, ⟨117, _⟩ => ⟨S5120x1024, .f32⟩
  | .hbm, ⟨118, _⟩ => ⟨S_, .f32⟩
  | .hbm, ⟨119, _⟩ => ⟨S_, .f32⟩
  | .hbm, ⟨120, _⟩ => ⟨S5120x1024, .i1⟩
  | .hbm, ⟨121, _⟩ => ⟨S5120x1024, .f32⟩
  | .hbm, ⟨122, _⟩ => ⟨S5120x1024, .f32⟩
  | .hbm, ⟨123, _⟩ => ⟨S5120x2176, .f32⟩
  | .hbm, ⟨124, _⟩ => ⟨S5120x2176, .bf16⟩
  | .hbm, ⟨125, _⟩ => ⟨S1x1024, .f32⟩
  | _, _ => ⟨S5120x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v5 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call2_v0 : Ref sig .tc := ⟨.hbm, 34, rfl⟩
abbrev main_call2_call0_cst : Ref sig .tc := ⟨.hbm, 35, rfl⟩
abbrev main_call2_call0_v0 : Ref sig .tc := ⟨.hbm, 36, rfl⟩
abbrev main_call2_call0_v1 : Ref sig .tc := ⟨.hbm, 37, rfl⟩
abbrev main_call2_call0_v2 : Ref sig .tc := ⟨.hbm, 38, rfl⟩
abbrev main_call2_call0_v3 : Ref sig .tc := ⟨.hbm, 39, rfl⟩
abbrev main_call2_call0_v4 : Ref sig .tc := ⟨.hbm, 40, rfl⟩
abbrev main_call2_call0_v5 : Ref sig .tc := ⟨.hbm, 41, rfl⟩
abbrev main_call2_call0_v6 : Ref sig .tc := ⟨.hbm, 42, rfl⟩
abbrev main_call2_call0_v7 : Ref sig .tc := ⟨.hbm, 43, rfl⟩
abbrev main_call2_call0_v8 : Ref sig .tc := ⟨.hbm, 44, rfl⟩
abbrev main_call2_call0_v9 : Ref sig .tc := ⟨.hbm, 45, rfl⟩
abbrev main_call2_call0_v10 : Ref sig .tc := ⟨.hbm, 46, rfl⟩
abbrev main_call2_call0_v11 : Ref sig .tc := ⟨.hbm, 47, rfl⟩
abbrev main_call2_v1_0 : Ref sig .tc := ⟨.hbm, 48, rfl⟩
abbrev main_call2_call0_cst_0 : Ref sig .tc := ⟨.hbm, 49, rfl⟩
abbrev main_call2_call0_v13 : Ref sig .tc := ⟨.hbm, 50, rfl⟩
abbrev main_call2_call0_v14 : Ref sig .tc := ⟨.hbm, 51, rfl⟩
abbrev main_call2_call0_cst_1 : Ref sig .tc := ⟨.hbm, 52, rfl⟩
abbrev main_call2_call0_v15 : Ref sig .tc := ⟨.hbm, 53, rfl⟩
abbrev main_call2_call0_v16 : Ref sig .tc := ⟨.hbm, 54, rfl⟩
abbrev main_call2_call0_cst_2 : Ref sig .tc := ⟨.hbm, 55, rfl⟩
abbrev main_call2_call0_v17 : Ref sig .tc := ⟨.hbm, 56, rfl⟩
abbrev main_call2_call0_v18 : Ref sig .tc := ⟨.hbm, 57, rfl⟩
abbrev main_call2_call0_cst_3 : Ref sig .tc := ⟨.hbm, 58, rfl⟩
abbrev main_call2_call0_v19 : Ref sig .tc := ⟨.hbm, 59, rfl⟩
abbrev main_call2_call0_v20 : Ref sig .tc := ⟨.hbm, 60, rfl⟩
abbrev main_call2_call0_v21 : Ref sig .tc := ⟨.hbm, 61, rfl⟩
abbrev main_v14_1 : Ref sig .tc := ⟨.hbm, 62, rfl⟩
abbrev main_call2_call0_cst_4 : Ref sig .tc := ⟨.hbm, 63, rfl⟩
abbrev main_call2_call0_cst_5 : Ref sig .tc := ⟨.hbm, 64, rfl⟩
abbrev main_call2_call0_v23 : Ref sig .tc := ⟨.hbm, 65, rfl⟩
abbrev main_call2_call0_cst_6 : Ref sig .tc := ⟨.hbm, 66, rfl⟩
abbrev main_call2_call0_cst_7 : Ref sig .tc := ⟨.hbm, 67, rfl⟩
abbrev main_call2_call0_v24 : Ref sig .tc := ⟨.hbm, 68, rfl⟩
abbrev main_call2_call0_cst_8 : Ref sig .tc := ⟨.hbm, 69, rfl⟩
abbrev main_call2_call0_v25 : Ref sig .tc := ⟨.hbm, 70, rfl⟩
abbrev main_call2_call0_v26 : Ref sig .tc := ⟨.hbm, 71, rfl⟩
abbrev main_call2_call0_cst_9 : Ref sig .tc := ⟨.hbm, 72, rfl⟩
abbrev main_call2_call0_v27 : Ref sig .tc := ⟨.hbm, 73, rfl⟩
abbrev main_call2_call0_v28 : Ref sig .tc := ⟨.hbm, 74, rfl⟩
abbrev main_call2_call0_v29 : Ref sig .tc := ⟨.hbm, 75, rfl⟩
abbrev main_call2_call0_v30 : Ref sig .tc := ⟨.hbm, 76, rfl⟩
abbrev main_call2_call0_v31 : Ref sig .tc := ⟨.hbm, 77, rfl⟩
abbrev main_call2_call0_cst_10 : Ref sig .tc := ⟨.hbm, 78, rfl⟩
abbrev main_call2_call0_v32 : Ref sig .tc := ⟨.hbm, 79, rfl⟩
abbrev main_v14_2 : Ref sig .tc := ⟨.hbm, 80, rfl⟩
abbrev main_v14_0 : Ref sig .tc := ⟨.hbm, 81, rfl⟩
abbrev main_cst_1 : Ref sig .tc := ⟨.hbm, 82, rfl⟩
abbrev main_v15 : Ref sig .tc := ⟨.hbm, 83, rfl⟩
abbrev main_v16 : Ref sig .tc := ⟨.hbm, 84, rfl⟩
abbrev main_cst_2 : Ref sig .tc := ⟨.hbm, 85, rfl⟩
abbrev main_v17 : Ref sig .tc := ⟨.hbm, 86, rfl⟩
abbrev main_v18 : Ref sig .tc := ⟨.hbm, 87, rfl⟩
abbrev main_call3_v0 : Ref sig .tc := ⟨.hbm, 88, rfl⟩
abbrev main_call3_v1 : Ref sig .tc := ⟨.hbm, 89, rfl⟩
abbrev main_v19 : Ref sig .tc := ⟨.hbm, 90, rfl⟩
abbrev main_cst_3 : Ref sig .tc := ⟨.hbm, 91, rfl⟩
abbrev main_v20 : Ref sig .tc := ⟨.hbm, 92, rfl⟩
abbrev main_v21 : Ref sig .tc := ⟨.hbm, 93, rfl⟩
abbrev main_cst_4 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_cst_5 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_cst_6 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_cst_7 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩

abbrev nD : Nat := 1
abbrev τ : Topo := Topo.v7x

variable {F : FTy → Type} [FloatOps F]
-- ==== Kernel12.lean ====
abbrev S8x1024 : Shape := ⟨2, ![8, 1024]⟩
abbrev S8x1024x384 : Shape := ⟨3, ![8, 1024, 384]⟩
abbrev S8x3072 : Shape := ⟨2, ![8, 3072]⟩
abbrev S16x1024 : Shape := ⟨2, ![16, 1024]⟩
abbrev S1x3072 : Shape := ⟨2, ![1, 3072]⟩
abbrev S8x2048 : Shape := ⟨2, ![8, 2048]⟩
abbrev S3072 : Shape := ⟨1, ![3072]⟩
abbrev S8x384 : Shape := ⟨2, ![8, 384]⟩
abbrev S1x1024x384 : Shape := ⟨3, ![1, 1024, 384]⟩
abbrev S1024x384 : Shape := ⟨2, ![1024, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S8x1024x384, .bf16⟩
  | .hbm, ⟨2, _⟩ => ⟨S8x3072, .f32⟩
  | .hbm, ⟨3, _⟩ => ⟨S16x1024, .f32⟩
  | .hbm, ⟨4, _⟩ => ⟨S8x1024, .f32⟩
  | .hbm, ⟨5, _⟩ => ⟨S8x3072, .f32⟩
  | .hbm, ⟨6, _⟩ => ⟨S1x3072, .f32⟩
  | .hbm, ⟨7, _⟩ => ⟨S8x1024, .f32⟩
  | .local _ .vmem, ⟨0, _⟩ => ⟨S8x1024, .f32⟩
  | .local _ .vmem, ⟨1, _⟩ => ⟨S8x1024x384, .bf16⟩
  | .local _ .vmem, ⟨2, _⟩ => ⟨S8x3072, .f32⟩
  | .local _ .vmem, ⟨3, _⟩ => ⟨S16x1024, .f32⟩
  | .local _ .vmem, ⟨4, _⟩ => ⟨S8x1024, .f32⟩
  | .local _ .vmem, ⟨5, _⟩ => ⟨S8x3072, .f32⟩
  | .local _ .vmem, ⟨6, _⟩ => ⟨S1x3072, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference12Ideal.lean ====
abbrev S8x1024 : Shape := ⟨2, ![8, 1024]⟩
abbrev S8x1024x384 : Shape := ⟨3, ![8, 1024, 384]⟩
abbrev S8x3072 : Shape := ⟨2, ![8, 3072]⟩
abbrev S16x1024 : Shape := ⟨2, ![16, 1024]⟩
abbrev S8x2048 : Shape := ⟨2, ![8, 2048]⟩
abbrev S_ : Shape := ⟨0, ![]⟩
abbrev S3072 : Shape := ⟨1, ![3072]⟩
abbrev S1024x8x384 : Shape := ⟨3, ![1024, 8, 384]⟩
abbrev S1024x3072 : Shape := ⟨2, ![1024, 3072]⟩
abbrev S1x3072 : Shape := ⟨2, ![1, 3072]⟩

abbrev nBuf : Space → Nat
  | .hbm => 43
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024x384, .bf16⟩
  | .hbm, ⟨2, _⟩ => ⟨S8x3072, .f32⟩
  | .hbm, ⟨3, _⟩ => ⟨S16x1024, .f32⟩
  | .hbm, ⟨4, _⟩ => ⟨S8x2048, .f32⟩
  | .hbm, ⟨5, _⟩ => ⟨S8x1024, .f32⟩
  | .hbm, ⟨6, _⟩ => ⟨S8x3072, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S3072, .f32⟩
  | .hbm, ⟨28, _⟩ => ⟨S1024x8x384, .bf16⟩
  | .hbm, ⟨29, _⟩ => ⟨S1024x3072, .bf16⟩
  | .hbm, ⟨30, _⟩ => ⟨S1024x3072, .f32⟩
  | .hbm, ⟨31, _⟩ => ⟨S8x3072, .f32⟩
  | .hbm, ⟨32, _⟩ => ⟨S1x3072, .f32⟩
  | .hbm, ⟨33, _⟩ => ⟨S8x3072, .f32⟩
  | .hbm, ⟨34, _⟩ => ⟨S8x3072, .f32⟩
  | .hbm, ⟨35, _⟩ => ⟨S_, .f32⟩
  | .hbm, ⟨36, _⟩ => ⟨S3072, .f32⟩
  | .hbm, ⟨37, _⟩ => ⟨S1x3072, .f32⟩
  | .hbm, ⟨38, _⟩ => ⟨S_, .f32⟩
  | .hbm, ⟨39, _⟩ => ⟨S3072, .f32⟩
  | .hbm, ⟨40, _⟩ => ⟨S8x1024, .f32⟩
  | .hbm, ⟨41, _⟩ => ⟨S1x3072, .f32⟩
  | .hbm, ⟨42, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_cst : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩

abbrev nD : Nat := 1
abbrev τ : Topo := Topo.v7x

variable {F : FTy → Type} [FloatOps F]
-- ==== Kernel13.lean ====
abbrev S8x1024 : Shape := ⟨2, ![8, 1024]⟩
abbrev S8x1024x384 : Shape := ⟨3, ![8, 1024, 384]⟩
abbrev S1x3072 : Shape := ⟨2, ![1, 3072]⟩
abbrev S8x3072 : Shape := ⟨2, ![8, 3072]⟩
abbrev S1x1024x384 : Shape := ⟨3, ![1, 1024, 384]⟩
abbrev S1024x384 : Shape := ⟨2, ![1024, 384]⟩
abbrev S8x384 : Shape := ⟨2, ![8, 384]⟩
abbrev S1x384 : Shape := ⟨2, ![1, 384]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S8x1024x384, .bf16⟩
  | .hbm, ⟨2, _⟩ => ⟨S1x3072, .f32⟩
  | .hbm, ⟨3, _⟩ => ⟨S8x3072, .f32⟩
  | .local _ .vmem, ⟨0, _⟩ => ⟨S8x1024, .f32⟩
  | .local _ .vmem, ⟨1, _⟩ => ⟨S8x1024x384, .bf16⟩
  | .local _ .vmem, ⟨2, _⟩ => ⟨S1x3072, .f32⟩
  | .local _ .vmem, ⟨3, _⟩ => ⟨S8x3072, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference13Ideal.lean ====
abbrev S8x1024 : Shape := ⟨2, ![8, 1024]⟩
abbrev S8x1024x384 : Shape := ⟨3, ![8, 1024, 384]⟩
abbrev S1x3072 : Shape := ⟨2, ![1, 3072]⟩
abbrev S_ : Shape := ⟨0, ![]⟩
abbrev S1024x8x384 : Shape := ⟨3, ![1024, 8, 384]⟩
abbrev S1024x3072 : Shape := ⟨2, ![1024, 3072]⟩
abbrev S8x3072 : Shape := ⟨2, ![8, 3072]⟩
abbrev S3072 : Shape := ⟨1, ![3072]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024x384, .bf16⟩
  | .hbm, ⟨2, _⟩ => ⟨S1x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x8x384, .bf16⟩
  | .hbm, ⟨13, _⟩ => ⟨S1024x3072, .bf16⟩
  | .hbm, ⟨14, _⟩ => ⟨S1024x3072, .f32⟩
  | .hbm, ⟨15, _⟩ => ⟨S8x3072, .f32⟩
  | .hbm, ⟨16, _⟩ => ⟨S3072, .f32⟩
  | .hbm, ⟨17, _⟩ => ⟨S1x3072, .f32⟩
  | .hbm, ⟨18, _⟩ => ⟨S8x3072, .f32⟩
  | .hbm, ⟨19, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel14.lean ====
abbrev S4096x1024 : Shape := ⟨2, ![4096, 1024]⟩
abbrev S512x1024 : Shape := ⟨2, ![512, 1024]⟩
abbrev S8x3072 : Shape := ⟨2, ![8, 3072]⟩
abbrev S1x1024 : Shape := ⟨2, ![1, 1024]⟩
abbrev S5120x1024 : Shape := ⟨2, ![5120, 1024]⟩
abbrev S256x1024 : Shape := ⟨2, ![256, 1024]⟩
abbrev S1x3072 : Shape := ⟨2, ![1, 3072]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S8x3072, .f32⟩
  | .hbm, ⟨3, _⟩ => ⟨S1x1024, .f32⟩
  | .hbm, ⟨4, _⟩ => ⟨S5120x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x3072, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c10_i32 : BitVec 32 := 10#32
  let v0 : BitVec 32 := Scalar.divsi arg0 c10_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c10_i32_4 : BitVec 32 := 10#32
  let c0_i32_5 : BitVec 32 := 0#32
  let v18 : BitVec 1 := Scalar.cmpi .eq c10_i32_4 c0_i32_5
  let c1_i32_6 : BitVec 32 := 1#32
  let v19 : BitVec 32 := Scalar.select v18 c1_i32_6 c10_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c7_i32 : BitVec 32 := 7#32
  let v28 : BitVec 32 := Scalar.minsi v27 c7_i32
  let v29 : BitVec 32 := Scalar.addi v17 v28
  let c0_i32_10 : BitVec 32 := 0#32
  let c0_i32_11 : BitVec 32 := 0#32
  ![v29.toNat, c0_i32_10.toNat]

def cc0_transform_1 (i : grid0.Coords) : Fin 2 → Nat :=
  let arg0 : BitVec 32 := BitVec.ofNat 32 (i 0).val
  let c10_i32 : BitVec 32 := 10#32
  let v0 : BitVec 32 := Scalar.divsi arg0 c10_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c10_i32_5 : BitVec 32 := 10#32
  let c0_i32_6 : BitVec 32 := 0#32
  let v18 : BitVec 1 := Scalar.cmpi .eq c10_i32_5 c0_i32_6
  let c1_i32_7 : BitVec 32 := 1#32
  let v19 : BitVec 32 := Scalar.select v18 c1_i32_7 c10_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c8_i32 : BitVec 32 := 8#32
  let v28 : BitVec 32 := Scalar.subi v27 c8_i32
  let c0_i32_11 : BitVec 32 := 0#32
  let c0_i32_12 : BitVec 32 := 0#32
  let v29 : BitVec 32 := Scalar.maxsi c0_i32_11 v28
  let v30 : BitVec 32 := Scalar.minsi c0_i32_12 v29
  let v31 : BitVec 32 := Scalar.addi v17 v30
  let c0_i32_13 : BitVec 32 := 0#32
  let c0_i32_14 : BitVec 32 := 0#32
  ![v31.toNat, c0_i32_13.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4096x1024 : Shape := ⟨2, ![4096, 1024]⟩
abbrev S512x1024 : Shape := ⟨2, ![512, 1024]⟩
abbrev S8x3072 : Shape := ⟨2, ![8, 3072]⟩
abbrev S1x1024 : Shape := ⟨2, ![1, 1024]⟩
abbrev S8x1024 : Shape := ⟨2, ![8, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S2x1x1024 : Shape := ⟨3, ![2, 1, 1024]⟩
abbrev S2x256x1024 : Shape := ⟨3, ![2, 256, 1024]⟩
abbrev S2x256 : Shape := ⟨2, ![2, 256]⟩
abbrev S2x256x1 : Shape := ⟨3, ![2, 256, 1]⟩
abbrev S2x2560x1024 : Shape := ⟨3, ![2, 2560, 1024]⟩
abbrev S5120x1024 : Shape := ⟨2, ![5120, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S8x3072, .f32⟩
  | .hbm, ⟨3, _⟩ => ⟨S1x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S2x2048x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x1024, .f32⟩
  | .hbm, ⟨33, _⟩ => ⟨S2x1x1024, .f32⟩
  | .hbm, ⟨34, _⟩ => ⟨S2x2048x1024, .f32⟩
  | .hbm, ⟨35, _⟩ => ⟨S2x2048x1024, .f32⟩
  | .hbm, ⟨36, _⟩ => ⟨S2x256x1024, .f32⟩
  | .hbm, ⟨37, _⟩ => ⟨S1024, .f32⟩
  | .hbm, ⟨38, _⟩ => ⟨S2x256x1024, .f32⟩
  | .hbm, ⟨39, _⟩ => ⟨S_, .f32⟩
  | .hbm, ⟨40, _⟩ => ⟨S2x256, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S2x256x1, .f32⟩
  | .hbm, ⟨49, _⟩ => ⟨S2x256x1024, .f32⟩
  | .hbm, ⟨50, _⟩ => ⟨S2x256x1024, .f32⟩
  | .hbm, ⟨51, _⟩ => ⟨S1x1x1024, .f32⟩
  | .hbm, ⟨52, _⟩ => ⟨S2x256x1024, .f32⟩
  | .hbm, ⟨53, _⟩ => ⟨S2x256x1024, .f32⟩
  | .hbm, ⟨54, _⟩ => ⟨S1x1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1x1024, .f32⟩
  | .hbm, ⟨60, _⟩ => ⟨S2x256x1024, .f32⟩
  | .hbm, ⟨61, _⟩ => ⟨S2x256x1024, .f32⟩
  | .hbm, ⟨62, _⟩ => ⟨S1x1024, .f32⟩
  | .hbm, ⟨63, _⟩ => ⟨S1024, .f32⟩
  | .hbm, ⟨64, _⟩ => ⟨S1x1x1024, .f32⟩
  | .hbm, ⟨65, _⟩ => ⟨S2x256x1024, .f32⟩
  | .hbm, ⟨66, _⟩ => ⟨S2x256x1024, .f32⟩
  | .hbm, ⟨67, _⟩ => ⟨S_, .f32⟩
  | .hbm, ⟨68, _⟩ => ⟨S2x256x1024, .f32⟩
  | .hbm, ⟨69, _⟩ => ⟨S2x2560x1024, .f32⟩
  | .hbm, ⟨70, _⟩ => ⟨S5120x1024, .f32⟩
  | .hbm, ⟨71, _⟩ => ⟨S5120x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Proof.Outs.lean ====
/-
  What the body leaves in the outputs' buffers and in the carried scratch, point by point: the run's pieces at a point of
  each case (the first point; any later one), that they cover each buffer, and the recursion over the points.
-/
module

public import proofs.«01_k».proof.Proof.Gen.KernelIdeal.Frame.RunB
public import Idealize.ShloMosaic.Lib.Claim

@[expose] public section

set_option maxRecDepth 16384

noncomputable section

namespace Cert.KernelIdeal.Own

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first point, at that point's buffers and blocks. -/
def runA (c : Dev nD) (t : Fin cfg0.N) (h0 : t.val % 18 = 0) :=
  kernelRun0_A c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    scM0_0 (Memref.isWhole_whole _) ((hcond0_0 t).mpr h0)
    (X0_0 m c t) (X0_1 m c t) (iblk m c 2 t) (iblk m c 3 t) (iblk m c 4 t) (iblk m c 5 t) (X0_6 m c t) (X0_7 m c t) (iblk m c 8 t) (iblk m c 9 t) (iblk m c 10 t) (iblk m c 11 t)

/-- The body's run at a later point, over what the point before left in the scratch. -/
def runB (c : Dev nD) (t : Fin cfg0.N) (h0 : ¬t.val % 18 = 0) (z : Vec F S16x256x128 .f32) :=
  kernelRun0_B c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    scM0_0 (Memref.isWhole_whole _) (fun h => h0 ((hcond0_0 t).mp h))
    (X0_0 m c t) (X0_1 m c t) (iblk m c 2 t) (iblk m c 3 t) (iblk m c 4 t) (iblk m c 5 t) (X0_6 m c t) (X0_7 m c t) (iblk m c 8 t) (iblk m c 9 t) (iblk m c 10 t) (iblk m c 11 t) z

/-! ## The pieces cover the buffers -/

section
variable (c : Dev nD) (t : Fin cfg0.N)

theorem coverA_12 (h0 : t.val % 18 = 0) (y : S2x128x512.Idx) : ∃ pc ∈ (runA m c t h0).1, y ∈ pc.1.set :=
  View.cover_of_tiledL (runA m c t h0).1 S1x128x128.size (by sl_kernel_rfl) y

theorem coverA_13 (h0 : t.val % 18 = 0) (y : S2x128x512.Idx) : ∃ pc ∈ (runA m c t h0).2.1, y ∈ pc.1.set :=
  View.cover_of_tiledL (runA m c t h0).2.1 S1x128x128.size (by sl_kernel_rfl) y

theorem coverA_14 (h0 : t.val % 18 = 0) (y : S2x128x1024.Idx) : ∃ pc ∈ (runA m c t h0).2.2.1, y ∈ pc.1.set :=
  View.cover_of_tiledL (runA m c t h0).2.2.1 S1x128x256.size (by sl_kernel_rfl) y

theorem coverA_15 (h0 : t.val % 18 = 0) (y : S2x128x512.Idx) : ∃ pc ∈ (runA m c t h0).2.2.2.1, y ∈ pc.1.set :=
  View.cover_of_tiledL (runA m c t h0).2.2.2.1 S1x128x512.size (by sl_kernel_rfl) y

theorem coverA_16 (h0 : t.val % 18 = 0) (y : S2x128x512.Idx) : ∃ pc ∈ (runA m c t h0).2.2.2.2.1, y ∈ pc.1.set :=
  View.cover_of_tiledL (runA m c t h0).2.2.2.2.1 S1x128x128.size (by sl_kernel_rfl) y

theorem coverA_17 (h0 : t.val % 18 = 0) (y : S2x128x512.Idx) : ∃ pc ∈ (runA m c t h0).2.2.2.2.2.1, y ∈ pc.1.set :=
  View.cover_of_tiledL (runA m c t h0).2.2.2.2.2.1 S1x128x128.size (by sl_kernel_rfl) y

theorem coverA_18 (h0 : t.val % 18 = 0) (y : S2x128x1024.Idx) : ∃ pc ∈ (runA m c t h0).2.2.2.2.2.2.1, y ∈ pc.1.set :=
  View.cover_of_tiledL (runA m c t h0).2.2.2.2.2.2.1 S1x128x256.size (by sl_kernel_rfl) y

theorem coverA_19 (h0 : t.val % 18 = 0) (y : S2x128x512.Idx) : ∃ pc ∈ (runA m c t h0).2.2.2.2.2.2.2.1, y ∈ pc.1.set :=
  View.cover_of_tiledL (runA m c t h0).2.2.2.2.2.2.2.1 S1x128x512.size (by sl_kernel_rfl) y

theorem coverA_s (h0 : t.val % 18 = 0) (y : S16x256x128.Idx) : ∃ pc ∈ (runA m c t h0).2.2.2.2.2.2.2.2.1, y ∈ pc.1.set :=
  View.cover_of_wholeMem (runA m c t h0).2.2.2.2.2.2.2.2.1 (by sl_whole_mem) y

theorem coverB_12 (h0 : ¬t.val % 18 = 0) (z : Vec F S16x256x128 .f32) (y : S2x128x512.Idx) : ∃ pc ∈ (runB m c t h0 z).1, y ∈ pc.1.set :=
  View.cover_of_tiledL (runB m c t h0 z).1 S1x128x128.size (by sl_kernel_rfl) y

theorem coverB_13 (h0 : ¬t.val % 18 = 0) (z : Vec F S16x256x128 .f32) (y : S2x128x512.Idx) : ∃ pc ∈ (runB m c t h0 z).2.1, y ∈ pc.1.set :=
  View.cover_of_tiledL (runB m c t h0 z).2.1 S1x128x128.size (by sl_kernel_rfl) y

theorem coverB_14 (h0 : ¬t.val % 18 = 0) (z : Vec F S16x256x128 .f32) (y : S2x128x1024.Idx) : ∃ pc ∈ (runB m c t h0 z).2.2.1, y ∈ pc.1.set :=
  View.cover_of_tiledL (runB m c t h0 z).2.2.1 S1x128x256.size (by sl_kernel_rfl) y

theorem coverB_15 (h0 : ¬t.val % 18 = 0) (z : Vec F S16x256x128 .f32) (y : S2x128x512.Idx) : ∃ pc ∈ (runB m c t h0 z).2.2.2.1, y ∈ pc.1.set :=
  View.cover_of_tiledL (runB m c t h0 z).2.2.2.1 S1x128x512.size (by sl_kernel_rfl) y

theorem coverB_16 (h0 : ¬t.val % 18 = 0) (z : Vec F S16x256x128 .f32) (y : S2x128x512.Idx) : ∃ pc ∈ (runB m c t h0 z).2.2.2.2.1, y ∈ pc.1.set :=
  View.cover_of_tiledL (runB m c t h0 z).2.2.2.2.1 S1x128x128.size (by sl_kernel_rfl) y

theorem coverB_17 (h0 : ¬t.val % 18 = 0) (z : Vec F S16x256x128 .f32) (y : S2x128x512.Idx) : ∃ pc ∈ (runB m c t h0 z).2.2.2.2.2.1, y ∈ pc.1.set :=
  View.cover_of_tiledL (runB m c t h0 z).2.2.2.2.2.1 S1x128x128.size (by sl_kernel_rfl) y

theorem coverB_18 (h0 : ¬t.val % 18 = 0) (z : Vec F S16x256x128 .f32) (y : S2x128x1024.Idx) : ∃ pc ∈ (runB m c t h0 z).2.2.2.2.2.2.1, y ∈ pc.1.set :=
  View.cover_of_tiledL (runB m c t h0 z).2.2.2.2.2.2.1 S1x128x256.size (by sl_kernel_rfl) y

theorem coverB_19 (h0 : ¬t.val % 18 = 0) (z : Vec F S16x256x128 .f32) (y : S2x128x512.Idx) : ∃ pc ∈ (runB m c t h0 z).2.2.2.2.2.2.2.1, y ∈ pc.1.set :=
  View.cover_of_tiledL (runB m c t h0 z).2.2.2.2.2.2.2.1 S1x128x512.size (by sl_kernel_rfl) y

theorem coverB_s (h0 : ¬t.val % 18 = 0) (z : Vec F S16x256x128 .f32) (y : S16x256x128.Idx) : ∃ pc ∈ (runB m c t h0 z).2.2.2.2.2.2.2.2.1, y ∈ pc.1.set :=
  View.cover_of_tiledL (runB m c t h0 z).2.2.2.2.2.2.2.2.1 S1x256x128.size (by sl_kernel_rfl) y
end

/-! ## The buffers after each point -/

/-- The eight outputs' buffers, in order, and the scratch. -/
abbrev Outs (F : FTy → Type) :=
  Vec F S2x128x512 .bf16 × Vec F S2x128x512 .bf16 × Vec F S2x128x1024 .bf16 × Vec F S2x128x512 .f32 × Vec F S2x128x512 .bf16 × Vec F S2x128x512 .bf16 × Vec F S2x128x1024 .bf16 × Vec F S2x128x512 .f32 × Vec F S16x256x128 .f32

/-- The pieces of case A, read back. -/
def ptA (c : Dev nD) (t : Fin cfg0.N) (h0 : t.val % 18 = 0) : Outs F :=
  (VO0_12.read (Elt F) (VO0_12.writes (Elt F) VO0_12.junk (runA m c t h0).1),
    VO0_13.read (Elt F) (VO0_13.writes (Elt F) VO0_13.junk (runA m c t h0).2.1),
    VO0_14.read (Elt F) (VO0_14.writes (Elt F) VO0_14.junk (runA m c t h0).2.2.1),
    VO0_15.read (Elt F) (VO0_15.writes (Elt F) VO0_15.junk (runA m c t h0).2.2.2.1),
    VO0_16.read (Elt F) (VO0_16.writes (Elt F) VO0_16.junk (runA m c t h0).2.2.2.2.1),
    VO0_17.read (Elt F) (VO0_17.writes (Elt F) VO0_17.junk (runA m c t h0).2.2.2.2.2.1),
    VO0_18.read (Elt F) (VO0_18.writes (Elt F) VO0_18.junk (runA m c t h0).2.2.2.2.2.2.1),
    VO0_19.read (Elt F) (VO0_19.writes (Elt F) VO0_19.junk (runA m c t h0).2.2.2.2.2.2.2.1),
    VS0_0.read (Elt F) (VS0_0.writes (Elt F) VS0_0.junk (runA m c t h0).2.2.2.2.2.2.2.2.1))

/-- The pieces of case B, read back. -/
def ptB (c : Dev nD) (t : Fin cfg0.N) (h0 : ¬t.val % 18 = 0) (z : Vec F S16x256x128 .f32) : Outs F :=
  (VO0_12.read (Elt F) (VO0_12.writes (Elt F) VO0_12.junk (runB m c t h0 z).1),
    VO0_13.read (Elt F) (VO0_13.writes (Elt F) VO0_13.junk (runB m c t h0 z).2.1),
    VO0_14.read (Elt F) (VO0_14.writes (Elt F) VO0_14.junk (runB m c t h0 z).2.2.1),
    VO0_15.read (Elt F) (VO0_15.writes (Elt F) VO0_15.junk (runB m c t h0 z).2.2.2.1),
    VO0_16.read (Elt F) (VO0_16.writes (Elt F) VO0_16.junk (runB m c t h0 z).2.2.2.2.1),
    VO0_17.read (Elt F) (VO0_17.writes (Elt F) VO0_17.junk (runB m c t h0 z).2.2.2.2.2.1),
    VO0_18.read (Elt F) (VO0_18.writes (Elt F) VO0_18.junk (runB m c t h0 z).2.2.2.2.2.2.1),
    VO0_19.read (Elt F) (VO0_19.writes (Elt F) VO0_19.junk (runB m c t h0 z).2.2.2.2.2.2.2.1),
    VS0_0.read (Elt F) (VS0_0.writes (Elt F) VS0_0.junk (runB m c t h0 z).2.2.2.2.2.2.2.2.1))

/-- The buffers after point `n`. -/
def outsAt (c : Dev nD) : (n : ℕ) → n < cfg0.N → Outs F
  | 0, hn => ptA m c ⟨0, hn⟩ (Nat.zero_mod _)
  | n + 1, hn =>
    if h0 : (n + 1) % 18 = 0 then ptA m c ⟨n + 1, hn⟩ h0
    else ptB m c ⟨n + 1, hn⟩ h0 (outsAt c n (Nat.lt_of_succ_lt hn)).2.2.2.2.2.2.2.2

theorem outsAt_A (c : Dev nD) (t : Fin cfg0.N) (h0 : t.val % 18 = 0) : outsAt m c t.val t.isLt = ptA m c t h0 := by
  obtain ⟨n, hn⟩ := t
  cases n with
  | zero => rfl
  | succ n => exact dif_pos h0

theorem outsAt_B (c : Dev nD) (t : Fin cfg0.N) (h0 : ¬t.val % 18 = 0) :
    outsAt m c t.val t.isLt
      = ptB m c t h0 (outsAt m c (t.val - 1) (Nat.lt_of_le_of_lt (Nat.sub_le _ _) t.isLt)).2.2.2.2.2.2.2.2 := by
  obtain ⟨n, hn⟩ := t
  cases n with
  | zero => exact absurd (Nat.zero_mod _) h0
  | succ n => exact dif_neg h0

end Cert.KernelIdeal.Own

end
-- ==== Proof.Run.lean ====
/-
  The run of the whole call: the proof data (what every buffer holds before and after each point), the body's obligation at
  a point, the launch, and the frame.
-/
module

public import proofs.«01_k».proof.Proof.Outs
public import Idealize.ShloMosaic.Lib.Claim

@[expose] public section

set_option maxRecDepth 16384

noncomputable section

namespace Cert.KernelIdeal.Own

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt m c (n - 1) (by omega)).2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt`; the invariant the class's
    (`PhiS`: the class's `ΦA` before the first point, then the scoped rest with the carried scratch at `outsAt`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => X0_7 m c t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
    | ⟨13, _⟩ => (outsAt m c t.val t.isLt).2.1
    | ⟨14, _⟩ => (outsAt m c t.val t.isLt).2.2.1
    | ⟨15, _⟩ => (outsAt m c t.val t.isLt).2.2.2.1
    | ⟨16, _⟩ => (outsAt m c t.val t.isLt).2.2.2.2.1
    | ⟨17, _⟩ => (outsAt m c t.val t.isLt).2.2.2.2.2.1
    | ⟨18, _⟩ => (outsAt m c t.val t.isLt).2.2.2.2.2.2.1
    | ⟨19, _⟩ => (outsAt m c t.val t.isLt).2.2.2.2.2.2.2.1
    | ⟨_ + 20, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt m c t.val t.isLt).1 := by dsimp only [dats]
theorem after0_13 (c : Dev nD) (t : Fin cfg0.N) : (dats m 0 c).after 13 t = (outsAt m c t.val t.isLt).2.1 := by dsimp only [dats]
theorem after0_14 (c : Dev nD) (t : Fin cfg0.N) : (dats m 0 c).after 14 t = (outsAt m c t.val t.isLt).2.2.1 := by dsimp only [dats]
theorem after0_15 (c : Dev nD) (t : Fin cfg0.N) : (dats m 0 c).after 15 t = (outsAt m c t.val t.isLt).2.2.2.1 := by dsimp only [dats]
theorem after0_16 (c : Dev nD) (t : Fin cfg0.N) : (dats m 0 c).after 16 t = (outsAt m c t.val t.isLt).2.2.2.2.1 := by dsimp only [dats]
theorem after0_17 (c : Dev nD) (t : Fin cfg0.N) : (dats m 0 c).after 17 t = (outsAt m c t.val t.isLt).2.2.2.2.2.1 := by dsimp only [dats]
theorem after0_18 (c : Dev nD) (t : Fin cfg0.N) : (dats m 0 c).after 18 t = (outsAt m c t.val t.isLt).2.2.2.2.2.2.1 := by dsimp only [dats]
theorem after0_19 (c : Dev nD) (t : Fin cfg0.N) : (dats m 0 c).after 19 t = (outsAt m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 18 := lt_of_lt_of_eq t.isLt (show cfg0.N = 18 from N_0)
  by_cases h0 : t.val % 18 = 0
  · by_cases hz : t.val = 0
    · rw [PhiS_castSucc m c t, PhiS_zero m c _ _ hz, PhiA0_eq]
      rw [outsAt_A m c t h0]
      unfold ptA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runA m c t h0).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (coverA_s m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (coverA_12 m c t h0)
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      unfold owns; iexists _; isplitr
      swap; · iexact H19
      ipureintro; exact View.read_writes_of_cover _ _ _ _ _ (coverA_19 m c t h0)
    · exfalso; have hN : t.val < 18 := lt_of_lt_of_eq t.isLt (show cfg0.N = 18 from N_0); omega
  · by_cases hz : t.val = 0
    · exfalso; have hN : t.val < 18 := lt_of_lt_of_eq t.isLt (show cfg0.N = 18 from N_0); omega
    · rw [PhiS_castSucc m c t, PhiS_pos m c _ _ hz]
      rw [outsAt_B m c t h0]
      unfold ptB; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runB m c t h0 _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (coverB_s m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (coverB_12 m c t h0 _)
      isplitl [H13]
      · unfold owns; iexists _; isplitr
        swap; · iexact H13
        ipureintro; exact View.read_writes_of_cover _ _ _ _ _ (coverB_13 m c t h0 _)
      isplitl [H14]
      · unfold owns; iexists _; isplitr
        swap; · iexact H14
        ipureintro; exact View.read_writes_of_cover _ _ _ _ _ (coverB_14 m c t h0 _)
      isplitl [H15]
      · unfold owns; iexists _; isplitr
        swap; · iexact H15
        ipureintro; exact View.read_writes_of_cover _ _ _ _ _ (coverB_15 m c t h0 _)
      isplitl [H16]
      · unfold owns; iexists _; isplitr
        swap; · iexact H16
        ipureintro; exact View.read_writes_of_cover _ _ _ _ _ (coverB_16 m c t h0 _)
      isplitl [H17]
      · unfold owns; iexists _; isplitr
        swap; · iexact H17
        ipureintro; exact View.read_writes_of_cover _ _ _ _ _ (coverB_17 m c t h0 _)
      isplitl [H18]
      · unfold owns; iexists _; isplitr
        swap; · iexact H18
        ipureintro; exact View.read_writes_of_cover _ _ _ _ _ (coverB_18 m c t h0 _)
      unfold owns; iexists _; isplitr
      swap; · iexact H19
      ipureintro; exact View.read_writes_of_cover _ _ _ _ _ (coverB_19 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 18 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Own

end
-- ==== Proof.Same.lean ====
/-
  The two programs of the gated linear attention's backward call have one text: the equality of their bodies, body tables
  and entry functions, by which the run of one is the run of the other.
-/
module

public import proofs.«01_k».proof.Proof.Gen.Kernel
public import proofs.«01_k».proof.Proof.Gen.KernelIdeal

@[expose] public section

set_option maxRecDepth 100000
set_option maxHeartbeats 20000000

noncomputable section

namespace Cert.Proof.Same

open Idealize.ShloMosaic

variable {F : FTy → Type} [FloatOps F]

theorem body : @Cert.Kernel.cc0_gla_bwd F _ _ = @Cert.KernelIdeal.cc0_gla_bwd F _ _ := rfl

/-- The body at a point and on its staging buffers. -/
theorem point (t s) : (Cert.Kernel.defs₀ (F := F)) .tc (0 : Fin 1) (t, s) = (Cert.KernelIdeal.defs₀ (F := F)) .tc (0 : Fin 1) (t, s) := by
  simp only [Cert.Kernel.defs₀, Cert.KernelIdeal.defs₀, Defs.onTc_tc]
  rw [body]
  rfl

theorem bodies : (Cert.Kernel.defs₀ (F := F)) = (Cert.KernelIdeal.defs₀ (F := F)) := by
  funext p l a
  match p with
  | .tc => match l, a with
    | ⟨0, _⟩, (t, s) => exact point t s
  | .scScalar _ => rfl
  | .scVector _ _ => rfl

theorem table : (Cert.Kernel.defs (F := F)) = (Cert.KernelIdeal.defs (F := F)) := by
  unfold Cert.Kernel.defs Cert.KernelIdeal.defs
  rw [bodies]
  rfl

theorem entry : (Cert.Kernel.main (F := F)) = (Cert.KernelIdeal.main (F := F)) := rfl

end Cert.Proof.Same

end
-- ==== Proof.Sums.lean ====
/-
  A sum over the first two axes of an array of rank three, read at an index: what a bias's gradient is in a reference (the
  cotangent summed over the examples and the tokens).
-/
module

public import Idealize.ShloMosaic.Lib.Pipeline.ValueKit

@[expose] public section

namespace Cert.Sums

open Idealize.ShloMosaic
open scoped BigOperators

variable {n0 n1 n2 : Nat}

/-- The indices that keep column `q` are `(e, r, q)`, for every `e` and `r`. -/
theorem fiber (h : (⟨3, ![n0, n1, n2]⟩ : Shape).ReducesTo [0, 1] ⟨1, ![n2]⟩) (q : Fin n2) (i : (⟨3, ![n0, n1, n2]⟩ : Shape).Idx) :
    h.drop i = (ix1 q : (⟨1, ![n2]⟩ : Shape).Idx) ↔ ∃ k : Fin n0 × Fin n1, ix3 k.1 k.2 q = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl
    | ⟨_ + 1, hb⟩ => exact absurd hb (by show ¬ _ < 1; omega)

/-- The sum over the first two axes, at column `q`. -/
theorem columns (h : (⟨3, ![n0, n1, n2]⟩ : Shape).ReducesTo [0, 1] ⟨1, ![n2]⟩) (v : (⟨3, ![n0, n1, n2]⟩ : Shape).Idx → EReal)
    (init : EReal) (q : Fin n2) :
    Ideal.hostReduceAdd h v init (ix1 q) = init + ∑ e : Fin n0, ∑ r : Fin n1, v (ix3 e r q) := by
  refine congrArg (init + ·) ((Finset.sum_filter_eq_sum_of_fiber _ (fun k : Fin n0 × Fin n1 => (ix3 k.1 k.2 q : (⟨3, ![n0, n1, n2]⟩ : Shape).Idx))
    (fun _ _ e => Prod.ext (congrFun e 0) (congrFun e 1)) (fiber h q) v).trans ?_)
  simp only [Fintype.sum_prod_type]

end Cert.Sums
-- ==== Proof.Product2.lean ====
/-
  The weight's and the bias's gradient of the output projection: each grid point multiplies 512 columns of the cotangent with
  all rows of the input, one example after the other; the two examples' products add up to the product over all rows.
-/
module

public import proofs.«01_k».proof.Proof.Gen.Kernel2Ideal
public import proofs.«01_k».proof.Proof.Gen.Kernel2Ideal.Value
public import proofs.«01_k».proof.Proof.Gen.Reference2Ideal.Run
public import proofs.«01_k».proof.Defs
public import proofs.«01_k».proof.Proof.Sums

@[expose] public section

set_option maxRecDepth 16384

noncomputable section

namespace Cert.Kernel2Ideal.Own

open Cert.Kernel2Ideal Cert.Kernel2Ideal.Gen Cert.Kernel2Ideal.Value
open Idealize.ShloMosaic Idealize.ShloMosaic.TcCoe Idealize.SL.Sem
open scoped BigOperators

/-- The two bf16 arrays: two examples of 2048 tokens, 1024 columns. -/
abbrev A := Vec Ideal S2x2048x1024 .bf16

/-- The weight's gradient. -/
def dw (a g : A) (p q : Fin 1024) : EReal := ∑ e : Fin 2, ∑ r : Fin 2048, a (ix3 e r p) * g (ix3 e r q)

/-- The bias's gradient. -/
def db (g : A) (q : Fin 1024) : EReal := ∑ e : Fin 2, ∑ r : Fin 2048, g (ix3 e r q)

variable (m : (ℓ : Loc nD τ sig) → Buf (Elt Ideal) ℓ)

/-! ## The blocks -/

theorem index0 : ∀ t : Fin cfg0.N, win0_0.index t = ![0, 0, 0] := by decide +kernel
theorem index1 : ∀ t : Fin cfg0.N, win0_1.index t = ![0, 0, (grid0.coords t 0).val] := by decide +kernel
theorem index2 : ∀ t : Fin cfg0.N, win0_2.index t = ![0, (grid0.coords t 0).val] := by decide +kernel
theorem index3 : ∀ t : Fin cfg0.N, win0_3.index t = ![0, (grid0.coords t 0).val] := by decide +kernel

/-- Column `q` of point `t`'s block, in the array. -/
def col (t : Fin cfg0.N) (q : Fin 512) : Fin 1024 :=
  ⟨(grid0.coords t 0).val * 512 + q.val, by have : (grid0.coords t 0).val < 2 := (grid0.coords t 0).isLt; omega⟩

theorem blk0 (c : Dev nD) (t : Fin cfg0.N) (e : Fin 2) (r : Fin 2048) (p : Fin 1024) :
    iblk m c 0 t (ix3 e r p) = m ((c : Thread nD τ).loc main_arg0) (ix3 e r p) := by
  blk_simp [iblk]
  exact congrArg _ (by blk_ext [index0])

theorem blk1 (c : Dev nD) (t : Fin cfg0.N) (e : Fin 2) (r : Fin 2048) (q : Fin 512) :
    iblk m c 1 t (ix3 e r q) = m ((c : Thread nD τ).loc main_arg1) (ix3 e r (col t q)) := by
  blk_simp [iblk]
  exact congrArg _ (by blk_ext [index1, col])

/-! ## What the body stores -/

theorem out2 (x0 : A) (x1 : Vec Ideal S2x2048x512 .bf16) (p : Fin 1024) (q : Fin 512) :
    out0_2 x0 x1 (ix2 p q) = ∑ e : Fin 2, ∑ r : Fin 2048, x0 (ix3 e r p) * x1 (ix3 e r q) := by
  unfold out0_2
  rw [View.canon_unit_zero (by funext a; fin_cases a <;> rfl)]
  pointwise [k0_pay4, k0_pay1, k0_pay2, dot_S2048x1024_S2048x512_S1024x512_0_0_1_1_n_n, Fin.sum_univ_two]

theorem out3 (x0 : A) (x1 : Vec Ideal S2x2048x512 .bf16) (p : Fin 1) (q : Fin 512) :
    out0_3 x0 x1 (ix2 p q) = ∑ e : Fin 2, ∑ r : Fin 2048, x1 (ix3 e r q) := by
  unfold out0_3
  rw [canon3_eq]
  pointwise [E3, Fin.sum_univ_two]

/-! ## The result arrays -/

theorem final2 (c : Dev nD) : (dats m 0 c).arrAt 2 cfg0.N = fun i : S1024x1024.Idx =>
    dw (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  idx_vars y
  rw [out2]
  simp only [blk0, blk1]
  exact congrArg₂ (dw _ _) (Fin.ext (by blk_simp [index2])) (Fin.ext (by blk_simp [index2, col]))

theorem final3 (c : Dev nD) : (dats m 0 c).arrAt 3 cfg0.N = fun i : S1x1024.Idx =>
    db (m ((c : Thread nD τ).loc main_arg1)) (i 1) := by
  refine (dats m 0 c).arrAt_eq_of_covers 3 _ (by decide +kernel) fun t hf y => ?_
  blk_simp
  rw [after0_3]
  idx_vars y
  rw [out3]
  simp only [blk1]
  exact congrArg (db _) (Fin.ext (by blk_simp [index3, col]))

end Cert.Kernel2Ideal.Own

namespace Cert.Reference2Ideal.Own

open Cert.Reference2Ideal Cert.Reference2Ideal.Gen
open Idealize.ShloMosaic Idealize.ShloMosaic.TcCoe Idealize.SL.Sem
open Cert.Kernel2Ideal.Own (A dw db)
open scoped BigOperators

theorem dw_eq (a g : A) : truncf .bf16 (transpose S1024x1024 [1, 0] (Host.dotGeneral (F := Ideal) dot_S2x2048x1024_S2x2048x1024_S1024x1024_01_01_2_2_n_n none (extf .f32 g bitsLt_bf16_f32) (extf .f32 a bitsLt_bf16_f32)) transposes_S1024x1024_S1024x1024_1_0) bitsLt_bf16_f32
    = fun i : S1024x1024.Idx => dw a g (i 0) (i 1) := by
  funext i
  idx_vars i
  pointwise [dot_S2x2048x1024_S2x2048x1024_S1024x1024_01_01_2_2_n_n, dw, mul_comm]

theorem db_eq (g : A) : broadcastInDim S1x1024 ![1] bcast_S1024_S1x1024_1 (Host.reduceAdd (F := Ideal) (extf .f32 g bitsLt_bf16_f32) (constant S_ .f32 0x00000000#32) reducesTo_S2x2048x1024_S1024_d0_1 h_S_)
    = fun i : S1x1024.Idx => db g (i 1) := by
  funext i
  idx_vars i
  pointwise [db, Cert.Sums.columns]

end Cert.Reference2Ideal.Own

namespace Cert.Proof

open Idealize.ShloMosaic Idealize.SL.Sem

/-- The kernel's two results are the two gradients of the reference. -/
theorem algebraic2 : Cert.algebraic_Kernel2Ideal_Reference2Ideal := by
  intro m ρ m' ρ' _ hagree
  refine ⟨_, _, (θ_run Cert.Kernel2Ideal.defs _ _).mono (fun _ h c => ⟨(h c).1.trans (Cert.Kernel2Ideal.Own.final2 m c),
    (h c).2.1.trans (Cert.Kernel2Ideal.Own.final3 m c), (h c).2.2⟩) (Cert.Kernel2Ideal.Value.run_blocks (F := Ideal) m ρ), ?_⟩
  refine (θ_run Cert.Reference2Ideal.defs _ _).mono (fun _ h c => ⟨(h c).1.trans ?_, (h c).2.1.trans ?_, (h c).2.2⟩)
    (Cert.Reference2Ideal.Value.run (F := Ideal) m' ρ')
  · rw [(hagree c).1, (hagree c).2]; exact Cert.Reference2Ideal.Own.dw_eq _ _
  · rw [(hagree c).2]; exact Cert.Reference2Ideal.Own.db_eq _

end Cert.Proof

end
-- ==== Proof.Product3.lean ====
/-
  The input projection's gradients over the latent rows, for the columns of the convolution's input. The kernel computes the
  weight's gradient transposed and never reads the context's rows.
-/
module

public import proofs.«01_k».proof.Proof.Gen.Kernel3Ideal
public import proofs.«01_k».proof.Proof.Gen.Kernel3Ideal.Value
public import proofs.«01_k».proof.Proof.Gen.Reference3Ideal.Run
public import proofs.«01_k».proof.Defs
public import proofs.«01_k».proof.Proof.Sums

@[expose] public section

set_option maxRecDepth 16384

noncomputable section

namespace Cert.Kernel3Ideal.Own

open Cert.Kernel3Ideal Cert.Kernel3Ideal.Gen Cert.Kernel3Ideal.Value
open Idealize.ShloMosaic Idealize.ShloMosaic.TcCoe Idealize.SL.Sem
open scoped BigOperators

/-- The inputs of the product, with the 512 rows of the tail after each example's 2048; and the cotangent. -/
abbrev U := Vec Ideal S2x2560x1024 .bf16
abbrev G := Vec Ideal S2x2048x2048 .bf16

/-- A token of an example, among the example's rows. -/
def row (r : Fin 2048) : Fin 2560 := ⟨r.val, by omega⟩

/-- The weight's gradient, transposed. -/
def dw (u : U) (g : G) (p : Fin 2048) (q : Fin 1024) : EReal :=
  ∑ e : Fin 2, ∑ r : Fin 2048, g (ix3 e r p) * u (ix3 e (row r) q)

/-- The bias's gradient. -/
def db (g : G) (p : Fin 2048) : EReal := ∑ e : Fin 2, ∑ r : Fin 2048, g (ix3 e r p)

variable (m : (ℓ : Loc nD τ sig) → Buf (Elt Ideal) ℓ)

/-! ## The blocks -/

theorem index0 : ∀ t : Fin cfg0.N, win0_0.index t = ![0, 0, 0] := by decide +kernel
theorem index1 : ∀ t : Fin cfg0.N, win0_1.index t = ![0, 0, (grid0.coords t 0).val] := by decide +kernel
theorem index2 : ∀ t : Fin cfg0.N, win0_2.index t = ![(grid0.coords t 0).val, 0] := by decide +kernel
theorem index3 : ∀ t : Fin cfg0.N, win0_3.index t = ![0, (grid0.coords t 0).val] := by decide +kernel

/-- Column `q` of point `t`'s block, in the array. -/
def col (t : Fin cfg0.N) (q : Fin 512) : Fin 2048 :=
  ⟨(grid0.coords t 0).val * 512 + q.val, by have : (grid0.coords t 0).val < 4 := (grid0.coords t 0).isLt; omega⟩

theorem blk0 (c : Dev nD) (t : Fin cfg0.N) (e : Fin 2) (r : Fin 2048) (p : Fin 1024) :
    X0_0 m c t (ix3 e r p) = m ((c : Thread nD τ).loc main_arg0) (ix3 e (row r) p) := by
  unfold X0_0 Pipeline.Window.fill
  rw [dif_pos (moved0_0 t _)]
  blk_simp [iblk]
  exact congrArg _ (by blk_ext [index0, row])

theorem blk1 (c : Dev nD) (t : Fin cfg0.N) (e : Fin 2) (r : Fin 2048) (q : Fin 512) :
    iblk m c 1 t (ix3 e r q) = m ((c : Thread nD τ).loc main_arg1) (ix3 e r (col t q)) := by
  blk_simp [iblk]
  exact congrArg _ (by blk_ext [index1, col])

/-! ## What the body stores -/

theorem out2 (c : Dev nD) (i : grid0.Coords) (a0 : Memref sig .tc .vmem S2x2048x1024 .bf16) (h0 : a0.IsWhole)
    (a1 : Memref sig .tc .vmem S2x2048x512 .bf16) (h1 : a1.IsWhole) (a2 : Memref sig .tc .vmem S512x1024 .bf16) (h2 : a2.IsWhole)
    (a3 : Memref sig .tc .vmem S1x512 .f32) (h3 : a3.IsWhole) (x0 : Vec Ideal S2x2048x1024 .bf16) (x1 : Vec Ideal S2x2048x512 .bf16)
    (p : Fin 512) (q : Fin 1024) : out0_A_2 c i a0 h0 a1 h1 a2 h2 a3 h3 x0 x1 (ix2 p q)
      = ∑ e : Fin 2, ∑ r : Fin 2048, x1 (ix3 e r p) * x0 (ix3 e r q) := by
  unfold out0_A_2 kernelRun0_A
  dsimp only
  frame_out
  pointwise [k0_pay4, k0_pay1, k0_pay2, dot_S2048x512_S2048x1024_S512x1024_0_0_1_1_n_n, Fin.sum_univ_two]

theorem out3 (c : Dev nD) (i : grid0.Coords) (a0 : Memref sig .tc .vmem S2x2048x1024 .bf16) (h0 : a0.IsWhole)
    (a1 : Memref sig .tc .vmem S2x2048x512 .bf16) (h1 : a1.IsWhole) (a2 : Memref sig .tc .vmem S512x1024 .bf16) (h2 : a2.IsWhole)
    (a3 : Memref sig .tc .vmem S1x512 .f32) (h3 : a3.IsWhole) (x0 : Vec Ideal S2x2048x1024 .bf16) (x1 : Vec Ideal S2x2048x512 .bf16)
    (p : Fin 1) (q : Fin 512) : out0_A_3 c i a0 h0 a1 h1 a2 h2 a3 h3 x0 x1 (ix2 p q)
      = ∑ e : Fin 2, ∑ r : Fin 2048, x1 (ix3 e r q) := by
  unfold out0_A_3 kernelRun0_A
  dsimp only
  frame_out
  pointwise [k0_pay3, k0_pay1, k0_pay2, Fin.sum_univ_two]

/-! ## The result arrays -/

theorem final2 (c : Dev nD) : (dats m 0 c).arrAt 2 cfg0.N = fun i : S2048x1024.Idx =>
    dw (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  idx_vars y
  unfold outsAt0
  dsimp only
  rw [out2]
  simp only [blk0, blk1]
  exact congrArg₂ (dw _ _) (Fin.ext (by blk_simp [index2, col])) (Fin.ext (by blk_simp [index2]))

theorem final3 (c : Dev nD) : (dats m 0 c).arrAt 3 cfg0.N = fun i : S1x2048.Idx =>
    db (m ((c : Thread nD τ).loc main_arg1)) (i 1) := by
  refine (dats m 0 c).arrAt_eq_of_covers 3 _ (by decide +kernel) fun t hf y => ?_
  blk_simp
  rw [after0_3]
  idx_vars y
  unfold outsAt0
  dsimp only
  rw [out3]
  simp only [blk1]
  exact congrArg (db _) (Fin.ext (by blk_simp [index3, col]))

end Cert.Kernel3Ideal.Own

namespace Cert.Reference3Ideal.Own

open Cert.Reference3Ideal Cert.Reference3Ideal.Gen
open Idealize.ShloMosaic Idealize.ShloMosaic.TcCoe Idealize.SL.Sem
open Cert.Kernel3Ideal.Own (U G dw db row)
open scoped BigOperators

theorem dw_eq (u : U) (g : G) : truncf .bf16 (transpose S2048x1024 [1, 0] (transpose S1024x2048 [1, 0] (Host.dotGeneral (F := Ideal) dot_S2x2048x2048_S2x2048x1024_S2048x1024_01_01_2_2_n_n none (extf .f32 g bitsLt_bf16_f32) (extf .f32 (extractStridedSlice S2x2048x1024 ![0, 0, 0] u slices_S2x2560x1024_S2x2048x1024_0_0_0) bitsLt_bf16_f32)) transposes_S2048x1024_S1024x2048_1_0) transposes_S1024x2048_S2048x1024_1_0) bitsLt_bf16_f32
    = fun i : S2048x1024.Idx => dw u g (i 0) (i 1) := by
  funext i
  idx_vars i
  pointwise [dot_S2x2048x2048_S2x2048x1024_S2048x1024_01_01_2_2_n_n, dw, row]

theorem db_eq (g : G) : broadcastInDim S1x2048 ![1] bcast_S2048_S1x2048_1 (Host.reduceAdd (F := Ideal) (shapeCast _ (Host.reduceAdd (F := Ideal) (extf .f32 g bitsLt_bf16_f32) (constant S_ .f32 0x00000000#32) reducesTo_S2x2048x2048_S2048_d0_1 h_S_) shapeCasts_S2048_S1x1x2048) (constant S_ .f32 0x00000000#32) reducesTo_S1x1x2048_S2048_d0_1 h_S_)
    = fun i : S1x2048.Idx => db g (i 1) := by
  funext i
  idx_vars i
  pointwise [db, Cert.Sums.columns, Fin.sum_univ_one]

end Cert.Reference3Ideal.Own

namespace Cert.Proof

open Idealize.ShloMosaic Idealize.SL.Sem

/-- The kernel's two results are the two gradients of the reference. -/
theorem algebraic3 : Cert.algebraic_Kernel3Ideal_Reference3Ideal := by
  intro m ρ m' ρ' _ hagree
  refine ⟨_, _, (θ_run Cert.Kernel3Ideal.defs _ _).mono (fun _ h c => ⟨(h c).1.trans (Cert.Kernel3Ideal.Own.final2 m c),
    (h c).2.1.trans (Cert.Kernel3Ideal.Own.final3 m c), (h c).2.2⟩) (Cert.Kernel3Ideal.Value.run_blocks (F := Ideal) m ρ), ?_⟩
  refine (θ_run Cert.Reference3Ideal.defs _ _).mono (fun _ h c => ⟨(h c).1.trans ?_, (h c).2.1.trans ?_, (h c).2.2⟩)
    (Cert.Reference3Ideal.Value.run (F := Ideal) m' ρ')
  · rw [(hagree c).1, (hagree c).2]; exact Cert.Reference3Ideal.Own.dw_eq _ _
  · rw [(hagree c).2]; exact Cert.Reference3Ideal.Own.db_eq _

end Cert.Proof

end
-- ==== Proof.Product4.lean ====
/-
  The input projection's gradients over the latent rows, for the columns of the gates.
-/
module

public import proofs.«01_k».proof.Proof.Gen.Kernel4Ideal
public import proofs.«01_k».proof.Proof.Gen.Kernel4Ideal.Value
public import proofs.«01_k».proof.Proof.Gen.Reference4Ideal.Run
public import proofs.«01_k».proof.Defs
public import proofs.«01_k».proof.Proof.Sums

@[expose] public section

set_option maxRecDepth 16384

noncomputable section

namespace Cert.Kernel4Ideal.Own

open Cert.Kernel4Ideal Cert.Kernel4Ideal.Gen Cert.Kernel4Ideal.Value
open Idealize.ShloMosaic Idealize.ShloMosaic.TcCoe Idealize.SL.Sem
open scoped BigOperators

/-- The inputs of the product, with the 512 rows of the tail after each example's 2048; and the cotangent. -/
abbrev U := Vec Ideal S2x2560x1024 .bf16
abbrev G := Vec Ideal S2x2048x4096 .bf16

/-- A token of an example, among the example's rows. -/
def row (r : Fin 2048) : Fin 2560 := ⟨r.val, by omega⟩

/-- The weight's gradient, transposed. -/
def dw (u : U) (g : G) (p : Fin 4096) (q : Fin 1024) : EReal :=
  ∑ e : Fin 2, ∑ r : Fin 2048, g (ix3 e r p) * u (ix3 e (row r) q)

/-- The bias's gradient. -/
def db (g : G) (p : Fin 4096) : EReal := ∑ e : Fin 2, ∑ r : Fin 2048, g (ix3 e r p)

variable (m : (ℓ : Loc nD τ sig) → Buf (Elt Ideal) ℓ)

/-! ## The blocks -/

theorem index0 : ∀ t : Fin cfg0.N, win0_0.index t = ![0, 0, 0] := by decide +kernel
theorem index1 : ∀ t : Fin cfg0.N, win0_1.index t = ![0, 0, (grid0.coords t 0).val] := by decide +kernel
theorem index2 : ∀ t : Fin cfg0.N, win0_2.index t = ![(grid0.coords t 0).val, 0] := by decide +kernel
theorem index3 : ∀ t : Fin cfg0.N, win0_3.index t = ![0, (grid0.coords t 0).val] := by decide +kernel

/-- Column `q` of point `t`'s block, in the array. -/
def col (t : Fin cfg0.N) (q : Fin 512) : Fin 4096 :=
  ⟨(grid0.coords t 0).val * 512 + q.val, by have : (grid0.coords t 0).val < 8 := (grid0.coords t 0).isLt; omega⟩

theorem blk0 (c : Dev nD) (t : Fin cfg0.N) (e : Fin 2) (r : Fin 2048) (p : Fin 1024) :
    X0_0 m c t (ix3 e r p) = m ((c : Thread nD τ).loc main_arg0) (ix3 e (row r) p) := by
  unfold X0_0 Pipeline.Window.fill
  rw [dif_pos (moved0_0 t _)]
  blk_simp [iblk]
  exact congrArg _ (by blk_ext [index0, row])

theorem blk1 (c : Dev nD) (t : Fin cfg0.N) (e : Fin 2) (r : Fin 2048) (q : Fin 512) :
    iblk m c 1 t (ix3 e r q) = m ((c : Thread nD τ).loc main_arg1) (ix3 e r (col t q)) := by
  blk_simp [iblk]
  exact congrArg _ (by blk_ext [index1, col])

/-! ## What the body stores -/

theorem out2 (c : Dev nD) (i : grid0.Coords) (a0 : Memref sig .tc .vmem S2x2048x1024 .bf16) (h0 : a0.IsWhole)
    (a1 : Memref sig .tc .vmem S2x2048x512 .bf16) (h1 : a1.IsWhole) (a2 : Memref sig .tc .vmem S512x1024 .bf16) (h2 : a2.IsWhole)
    (a3 : Memref sig .tc .vmem S1x512 .f32) (h3 : a3.IsWhole) (x0 : Vec Ideal S2x2048x1024 .bf16) (x1 : Vec Ideal S2x2048x512 .bf16)
    (p : Fin 512) (q : Fin 1024) : out0_A_2 c i a0 h0 a1 h1 a2 h2 a3 h3 x0 x1 (ix2 p q)
      = ∑ e : Fin 2, ∑ r : Fin 2048, x1 (ix3 e r p) * x0 (ix3 e r q) := by
  unfold out0_A_2 kernelRun0_A
  dsimp only
  frame_out
  pointwise [k0_pay4, k0_pay1, k0_pay2, dot_S2048x512_S2048x1024_S512x1024_0_0_1_1_n_n, Fin.sum_univ_two]

theorem out3 (c : Dev nD) (i : grid0.Coords) (a0 : Memref sig .tc .vmem S2x2048x1024 .bf16) (h0 : a0.IsWhole)
    (a1 : Memref sig .tc .vmem S2x2048x512 .bf16) (h1 : a1.IsWhole) (a2 : Memref sig .tc .vmem S512x1024 .bf16) (h2 : a2.IsWhole)
    (a3 : Memref sig .tc .vmem S1x512 .f32) (h3 : a3.IsWhole) (x0 : Vec Ideal S2x2048x1024 .bf16) (x1 : Vec Ideal S2x2048x512 .bf16)
    (p : Fin 1) (q : Fin 512) : out0_A_3 c i a0 h0 a1 h1 a2 h2 a3 h3 x0 x1 (ix2 p q)
      = ∑ e : Fin 2, ∑ r : Fin 2048, x1 (ix3 e r q) := by
  unfold out0_A_3 kernelRun0_A
  dsimp only
  frame_out
  pointwise [k0_pay3, k0_pay1, k0_pay2, Fin.sum_univ_two]

/-! ## The result arrays -/

theorem final2 (c : Dev nD) : (dats m 0 c).arrAt 2 cfg0.N = fun i : S4096x1024.Idx =>
    dw (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  idx_vars y
  unfold outsAt0
  dsimp only
  rw [out2]
  simp only [blk0, blk1]
  exact congrArg₂ (dw _ _) (Fin.ext (by blk_simp [index2, col])) (Fin.ext (by blk_simp [index2]))

theorem final3 (c : Dev nD) : (dats m 0 c).arrAt 3 cfg0.N = fun i : S1x4096.Idx =>
    db (m ((c : Thread nD τ).loc main_arg1)) (i 1) := by
  refine (dats m 0 c).arrAt_eq_of_covers 3 _ (by decide +kernel) fun t hf y => ?_
  blk_simp
  rw [after0_3]
  idx_vars y
  unfold outsAt0
  dsimp only
  rw [out3]
  simp only [blk1]
  exact congrArg (db _) (Fin.ext (by blk_simp [index3, col]))

end Cert.Kernel4Ideal.Own

namespace Cert.Reference4Ideal.Own

open Cert.Reference4Ideal Cert.Reference4Ideal.Gen
open Idealize.ShloMosaic Idealize.ShloMosaic.TcCoe Idealize.SL.Sem
open Cert.Kernel4Ideal.Own (U G dw db row)
open scoped BigOperators

theorem dw_eq (u : U) (g : G) : truncf .bf16 (transpose S4096x1024 [1, 0] (transpose S1024x4096 [1, 0] (Host.dotGeneral (F := Ideal) dot_S2x2048x4096_S2x2048x1024_S4096x1024_01_01_2_2_n_n none (extf .f32 g bitsLt_bf16_f32) (extf .f32 (extractStridedSlice S2x2048x1024 ![0, 0, 0] u slices_S2x2560x1024_S2x2048x1024_0_0_0) bitsLt_bf16_f32)) transposes_S4096x1024_S1024x4096_1_0) transposes_S1024x4096_S4096x1024_1_0) bitsLt_bf16_f32
    = fun i : S4096x1024.Idx => dw u g (i 0) (i 1) := by
  funext i
  idx_vars i
  pointwise [dot_S2x2048x4096_S2x2048x1024_S4096x1024_01_01_2_2_n_n, dw, row]

theorem db_eq (g : G) : broadcastInDim S1x4096 ![1] bcast_S4096_S1x4096_1 (Host.reduceAdd (F := Ideal) (shapeCast _ (Host.reduceAdd (F := Ideal) (extf .f32 g bitsLt_bf16_f32) (constant S_ .f32 0x00000000#32) reducesTo_S2x2048x4096_S4096_d0_1 h_S_) shapeCasts_S4096_S1x1x4096) (constant S_ .f32 0x00000000#32) reducesTo_S1x1x4096_S4096_d0_1 h_S_)
    = fun i : S1x4096.Idx => db g (i 1) := by
  funext i
  idx_vars i
  pointwise [db, Cert.Sums.columns, Fin.sum_univ_one]

end Cert.Reference4Ideal.Own

namespace Cert.Proof

open Idealize.ShloMosaic Idealize.SL.Sem

/-- The kernel's two results are the two gradients of the reference. -/
theorem algebraic4 : Cert.algebraic_Kernel4Ideal_Reference4Ideal := by
  intro m ρ m' ρ' _ hagree
  refine ⟨_, _, (θ_run Cert.Kernel4Ideal.defs _ _).mono (fun _ h c => ⟨(h c).1.trans (Cert.Kernel4Ideal.Own.final2 m c),
    (h c).2.1.trans (Cert.Kernel4Ideal.Own.final3 m c), (h c).2.2⟩) (Cert.Kernel4Ideal.Value.run_blocks (F := Ideal) m ρ), ?_⟩
  refine (θ_run Cert.Reference4Ideal.defs _ _).mono (fun _ h c => ⟨(h c).1.trans ?_, (h c).2.1.trans ?_, (h c).2.2⟩)
    (Cert.Reference4Ideal.Value.run (F := Ideal) m' ρ')
  · rw [(hagree c).1, (hagree c).2]; exact Cert.Reference4Ideal.Own.dw_eq _ _
  · rw [(hagree c).2]; exact Cert.Reference4Ideal.Own.db_eq _

end Cert.Proof

end
-- ==== Proof.Product5.lean ====
/-
  The input projection's gradients over all rows, for the columns of the attention's q, k, v and decays. Five grid points
  each add their rows' part, the weight's in a scratch accumulator and the bias's in the result's own buffer.
-/
module

public import proofs.«01_k».proof.Proof.Gen.Kernel5Ideal
public import proofs.«01_k».proof.Proof.Gen.Kernel5Ideal.Value
public import proofs.«01_k».proof.Proof.Gen.Reference5Ideal.Run
public import proofs.«01_k».proof.Defs
public import Idealize.ShloMosaic.Lib.Pipeline.ValueKit

@[expose] public section

set_option maxRecDepth 16384

noncomputable section

namespace Cert.Kernel5Ideal.Own

open Cert.Kernel5Ideal Cert.Kernel5Ideal.Gen Cert.Kernel5Ideal.Value
open Idealize.ShloMosaic Idealize.ShloMosaic.TcCoe Idealize.SL.Sem
open scoped BigOperators

/-- The inputs of the product and the cotangent. -/
abbrev U := Vec Ideal S5120x1024 .bf16
abbrev G := Vec Ideal S5120x2176 .bf16

/-- Row `r` of block `j`, in the array. -/
def row (j : Fin 5) (r : Fin 1024) : Fin 5120 := ⟨j.val * 1024 + r.val, by omega⟩

/-- Block `j`'s part of the weight's gradient, transposed, and the gradient; -/
def dwAt (u : U) (g : G) (p : Fin 2176) (q : Fin 1024) (j : Fin 5) : EReal := ∑ r : Fin 1024, g (ix2 (row j r) p) * u (ix2 (row j r) q)
def dw (u : U) (g : G) (p : Fin 2176) (q : Fin 1024) : EReal := ∑ r : Fin 5120, g (ix2 r p) * u (ix2 r q)

/-- and of the bias's. -/
def dbAt (g : G) (p : Fin 2176) (j : Fin 5) : EReal := ∑ r : Fin 1024, g (ix2 (row j r) p)
def db (g : G) (p : Fin 2176) : EReal := ∑ r : Fin 5120, g (ix2 r p)

theorem dw_sum (u : U) (g : G) (p : Fin 2176) (q : Fin 1024) :
    dw u g p q = dwAt u g p q 0 + dwAt u g p q 1 + dwAt u g p q 2 + dwAt u g p q 3 + dwAt u g p q 4 := by
  unfold dw
  rw [Fin.sum_univ_tiles 5 1024 rfl, Fin.sum_univ_five]
  rfl

theorem db_sum (g : G) (p : Fin 2176) : db g p = dbAt g p 0 + dbAt g p 1 + dbAt g p 2 + dbAt g p 3 + dbAt g p 4 := by
  unfold db
  rw [Fin.sum_univ_tiles 5 1024 rfl, Fin.sum_univ_five]
  rfl

variable (m : (ℓ : Loc nD τ sig) → Buf (Elt Ideal) ℓ)

/-! ## The blocks -/

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel

/-- Point `t` reads block `t` of the rows. -/
def num (t : Fin cfg0.N) : Fin 5 := ⟨t.val, lt_of_lt_of_eq t.isLt N_0⟩

theorem blk0 (c : Dev nD) (t : Fin cfg0.N) (r : Fin 1024) (q : Fin 1024) :
    iblk m c 0 t (ix2 r q) = m ((c : Thread nD τ).loc main_arg0) (ix2 (row (num t) r) q) := by
  blk_simp [iblk]
  exact congrArg _ (by blk_ext [index0, row, num])

theorem blk1 (c : Dev nD) (t : Fin cfg0.N) (r : Fin 1024) (p : Fin 2176) :
    iblk m c 1 t (ix2 r p) = m ((c : Thread nD τ).loc main_arg1) (ix2 (row (num t) r) p) := by
  blk_simp [iblk]
  exact congrArg _ (by blk_ext [index1, row, num])

/-! ## What the body stores -/

section
variable (c : Dev nD) (i : grid0.Coords) (a0 : Memref sig .tc .vmem S1024x1024 .bf16) (h0 : a0.IsWhole)
  (a1 : Memref sig .tc .vmem S1024x2176 .bf16) (h1 : a1.IsWhole) (a2 : Memref sig .tc .vmem S2176x1024 .bf16) (h2 : a2.IsWhole)
  (a3 : Memref sig .tc .vmem S1x2176 .f32) (h3 : a3.IsWhole) (a4 : Memref sig .tc .vmem S2176x1024 .f32) (h4 : a4.IsWhole)
  (x0 : Vec Ideal S1024x1024 .bf16) (x1 : Vec Ideal S1024x2176 .bf16) (xo : Vec Ideal S1x2176 .f32) (xs : Vec Ideal S2176x1024 .f32)

theorem firstS (c0 : cond0_0 i) (c1 : ¬cond0_1 i) (c2 : ¬cond0_2 i) (p : Fin 2176) (q : Fin 1024) :
    sout0_A_0 c i a0 h0 a1 h1 a2 h2 a3 h3 a4 h4 c0 c1 c2 x0 x1 (ix2 p q) = ∑ r : Fin 1024, x1 (ix2 r p) * x0 (ix2 r q) := by
  unfold sout0_A_0 kernelRun0_A
  dsimp only
  frame_out
  pointwise [k0_pay3, k0_pay1, dot_S1024x2176_S1024x1024_S2176x1024_0_0_1_1_n_n]

theorem firstB (c0 : cond0_0 i) (c1 : ¬cond0_1 i) (c2 : ¬cond0_2 i) (z : Fin 1) (p : Fin 2176) :
    out0_A_3 c i a0 h0 a1 h1 a2 h2 a3 h3 a4 h4 c0 c1 c2 x0 x1 (ix2 z p) = ∑ r : Fin 1024, x1 (ix2 r p) := by
  unfold out0_A_3 kernelRun0_A
  dsimp only
  frame_out
  pointwise [k0_pay2]

theorem nextS (c0 : ¬cond0_0 i) (c1 : cond0_1 i) (c2 : ¬cond0_2 i) (p : Fin 2176) (q : Fin 1024) :
    sout0_B_0 c i a0 h0 a1 h1 a2 h2 a3 h3 a4 h4 c0 c1 c2 x0 x1 xo xs (ix2 p q)
      = xs (ix2 p q) + ∑ r : Fin 1024, x1 (ix2 r p) * x0 (ix2 r q) := by
  unfold sout0_B_0 kernelRun0_B
  dsimp only
  frame_out
  pointwise [k0_pay4, k0_pay1, dot_S1024x2176_S1024x1024_S2176x1024_0_0_1_1_n_n]

theorem nextB (c0 : ¬cond0_0 i) (c1 : cond0_1 i) (c2 : ¬cond0_2 i) (z : Fin 1) (p : Fin 2176) :
    out0_B_3 c i a0 h0 a1 h1 a2 h2 a3 h3 a4 h4 c0 c1 c2 x0 x1 xo xs (ix2 z p) = xo (ix2 z p) + ∑ r : Fin 1024, x1 (ix2 r p) := by
  unfold out0_B_3 kernelRun0_B
  dsimp only
  frame_out
  pointwise [k0_pay5, k0_pay2]

theorem lastW (c0 : ¬cond0_0 i) (c1 : cond0_1 i) (c2 : cond0_2 i) (p : Fin 2176) (q : Fin 1024) :
    out0_C_2 c i a0 h0 a1 h1 a2 h2 a3 h3 a4 h4 c0 c1 c2 x0 x1 xo xs (ix2 p q)
      = xs (ix2 p q) + ∑ r : Fin 1024, x1 (ix2 r p) * x0 (ix2 r q) := by
  unfold out0_C_2 kernelRun0_C
  dsimp only
  frame_out
  pointwise [k0_pay6, k0_pay4, k0_pay1, dot_S1024x2176_S1024x1024_S2176x1024_0_0_1_1_n_n]

theorem lastB (c0 : ¬cond0_0 i) (c1 : cond0_1 i) (c2 : cond0_2 i) (z : Fin 1) (p : Fin 2176) :
    out0_C_3 c i a0 h0 a1 h1 a2 h2 a3 h3 a4 h4 c0 c1 c2 x0 x1 xo xs (ix2 z p) = xo (ix2 z p) + ∑ r : Fin 1024, x1 (ix2 r p) := by
  unfold out0_C_3 kernelRun0_C
  dsimp only
  frame_out
  pointwise [k0_pay5, k0_pay2]

end

/-! ## What the points leave -/

/-- The two arguments. -/
abbrev arg0 (c : Dev nD) : U := m ((c : Thread nD τ).loc main_arg0)
abbrev arg1 (c : Dev nD) : G := m ((c : Thread nD τ).loc main_arg1)

/-- The first point leaves block 0's parts in the accumulators; -/
theorem at0 (c : Dev nD) (h : 0 < cfg0.N) (z : Fin 1) (p : Fin 2176) (q : Fin 1024) :
    (outsAt0 m c 0 h).2.2 (ix2 p q) = dwAt (arg0 m c) (arg1 m c) p q 0 ∧ (outsAt0 m c 0 h).2.1 (ix2 z p) = dbAt (arg1 m c) p 0 := by
  have e := outsAt0_A m c ⟨0, h⟩ rfl (by dsimp only; omega) (by dsimp only; omega)
  dsimp only at e
  rw [e]
  dsimp only
  rw [firstS, firstB]
  simp only [blk0, blk1]
  exact ⟨rfl, rfl⟩

/-- each of the next three adds its own; -/
theorem atNext (c : Dev nD) (n : ℕ) (h : n + 1 < cfg0.N) (hn : n + 1 < 4) (z : Fin 1) (p : Fin 2176) (q : Fin 1024) :
    (outsAt0 m c (n + 1) h).2.2 (ix2 p q) = (outsAt0 m c n (Nat.lt_of_succ_lt h)).2.2 (ix2 p q)
        + dwAt (arg0 m c) (arg1 m c) p q ⟨n + 1, by omega⟩
      ∧ (outsAt0 m c (n + 1) h).2.1 (ix2 z p) = (outsAt0 m c n (Nat.lt_of_succ_lt h)).2.1 (ix2 z p)
        + dbAt (arg1 m c) p ⟨n + 1, by omega⟩ := by
  have e := outsAt0_B m c ⟨n + 1, h⟩ (by dsimp only; omega) (by dsimp only; omega) (by dsimp only; omega)
  dsimp only at e
  rw [e]
  dsimp only
  rw [nextS, nextB]
  simp only [blk0, blk1]
  exact ⟨rfl, rfl⟩

/-- and the last adds its own and stores the sums. -/
theorem atLast (c : Dev nD) (h : 4 < cfg0.N) (z : Fin 1) (p : Fin 2176) (q : Fin 1024) :
    (outsAt0 m c 4 h).1 (ix2 p q) = (outsAt0 m c 3 (Nat.lt_of_succ_lt h)).2.2 (ix2 p q) + dwAt (arg0 m c) (arg1 m c) p q 4
      ∧ (outsAt0 m c 4 h).2.1 (ix2 z p) = (outsAt0 m c 3 (Nat.lt_of_succ_lt h)).2.1 (ix2 z p) + dbAt (arg1 m c) p 4 := by
  have e := outsAt0_C m c ⟨4, h⟩ (by dsimp only; omega) (by dsimp only; omega) (by dsimp only)
  dsimp only at e
  rw [e]
  dsimp only
  rw [lastW, lastB]
  simp only [blk0, blk1]
  exact ⟨rfl, rfl⟩

/-- So the last point stores the whole sums. -/
theorem leaves (c : Dev nD) {n : ℕ} (h : n < cfg0.N) (hn : n = 4) (z : Fin 1) (p : Fin 2176) (q : Fin 1024) :
    (outsAt0 m c n h).1 (ix2 p q) = dw (arg0 m c) (arg1 m c) p q ∧ (outsAt0 m c n h).2.1 (ix2 z p) = db (arg1 m c) p := by
  subst hn
  have e0 := at0 m c (by omega) z p q
  have e1 := atNext m c 0 (by omega) (by omega) z p q
  have e2 := atNext m c 1 (by omega) (by omega) z p q
  have e3 := atNext m c 2 (by omega) (by omega) z p q
  have e4 := atLast m c h z p q
  rw [dw_sum, db_sum, e4.1, e4.2, e3.1, e3.2, e2.1, e2.2, e1.1, e1.2, e0.1, e0.2]
  exact ⟨rfl, rfl⟩

/-! ## The result arrays -/

theorem final2 (c : Dev nD) : (dats m 0 c).arrAt 2 cfg0.N = fun i : S2176x1024.Idx => dw (arg0 m c) (arg1 m c) (i 0) (i 1) := by
  refine (dats m 0 c).arrAt_eq_of_covers 2 _ (by decide +kernel) fun t hf y => ?_
  have ht : t.val % 5 = 4 := (flush0_2 t).mp hf
  have hN : t.val < 5 := lt_of_lt_of_eq t.isLt N_0
  blk_simp
  rw [after0_2]
  idx_vars y
  rw [(leaves m c t.isLt (by omega) 0 _ _).1]
  exact congrArg₂ (dw _ _) (Fin.ext (by blk_simp [index2])) (Fin.ext (by blk_simp [index2]))

theorem final3 (c : Dev nD) : (dats m 0 c).arrAt 3 cfg0.N = fun i : S1x2176.Idx => db (arg1 m c) (i 1) := by
  refine (dats m 0 c).arrAt_eq_of_covers 3 _ (by decide +kernel) fun t hf y => ?_
  have ht : t.val % 5 = 4 := (flush0_3 t).mp hf
  have hN : t.val < 5 := lt_of_lt_of_eq t.isLt N_0
  blk_simp
  rw [after0_3]
  idx_vars y
  rw [(leaves m c t.isLt (by omega) _ _ 0).2]
  exact congrArg (db _) (Fin.ext (by blk_simp [index3]))

end Cert.Kernel5Ideal.Own

namespace Cert.Reference5Ideal.Own

open Cert.Reference5Ideal Cert.Reference5Ideal.Gen
open Idealize.ShloMosaic Idealize.ShloMosaic.TcCoe Idealize.SL.Sem
open Cert.Kernel5Ideal.Own (U G dw db)
open scoped BigOperators

theorem dw_eq (u : U) (g : G) : truncf .bf16 (transpose S2176x1024 [1, 0] (transpose S1024x2176 [1, 0] (Host.dotGeneral (F := Ideal) dot_S5120x2176_S5120x1024_S2176x1024_0_0_1_1_n_n none (extf .f32 g bitsLt_bf16_f32) (extf .f32 u bitsLt_bf16_f32)) transposes_S2176x1024_S1024x2176_1_0) transposes_S1024x2176_S2176x1024_1_0) bitsLt_bf16_f32
    = fun i : S2176x1024.Idx => dw u g (i 0) (i 1) := by
  funext i
  idx_vars i
  pointwise [dot_S5120x2176_S5120x1024_S2176x1024_0_0_1_1_n_n, dw]

theorem db_eq (g : G) : broadcastInDim S1x2176 ![1] bcast_S2176_S1x2176_1 (Host.reduceAdd (F := Ideal) (shapeCast _ (Host.reduceAdd (F := Ideal) (extf .f32 g bitsLt_bf16_f32) (constant S_ .f32 0x00000000#32) reducesTo_S5120x2176_S2176_d0 h_S_) shapeCasts_S2176_S1x2176) (constant S_ .f32 0x00000000#32) reducesTo_S1x2176_S2176_d0 h_S_)
    = fun i : S1x2176.Idx => db g (i 1) := by
  funext i
  idx_vars i
  pointwise [db, Fin.sum_univ_one]

end Cert.Reference5Ideal.Own

namespace Cert.Proof

open Idealize.ShloMosaic Idealize.SL.Sem

/-- The kernel's two results are the two gradients of the reference. -/
theorem algebraic5 : Cert.algebraic_Kernel5Ideal_Reference5Ideal := by
  intro m ρ m' ρ' _ hagree
  refine ⟨_, _, (θ_run Cert.Kernel5Ideal.defs _ _).mono (fun _ h c => ⟨(h c).1.trans ((Cert.Kernel5Ideal.Value.final2 m c).symm.trans
      (Cert.Kernel5Ideal.Own.final2 m c)), (h c).2.1.trans ((Cert.Kernel5Ideal.Value.final3 m c).symm.trans
      (Cert.Kernel5Ideal.Own.final3 m c)), (h c).2.2⟩) (Cert.Kernel5Ideal.Value.run (F := Ideal) m ρ), ?_⟩
  refine (θ_run Cert.Reference5Ideal.defs _ _).mono (fun _ h c => ⟨(h c).1.trans ?_, (h c).2.1.trans ?_, (h c).2.2⟩)
    (Cert.Reference5Ideal.Value.run (F := Ideal) m' ρ')
  · rw [(hagree c).1, (hagree c).2]; exact Cert.Reference5Ideal.Own.dw_eq _ _
  · rw [(hagree c).2]; exact Cert.Reference5Ideal.Own.db_eq _

end Cert.Proof

end
-- ==== Proof.Product6.lean ====
/-
  The gradient of the input projection's rows from the columns of the convolution's input, one product per grid point.
-/
module

public import proofs.«01_k».proof.Proof.Gen.Kernel6Ideal
public import proofs.«01_k».proof.Proof.Gen.Kernel6Ideal.Value
public import proofs.«01_k».proof.Proof.Gen.Reference6Ideal.Run
public import proofs.«01_k».proof.Defs
public import Idealize.ShloMosaic.Lib.Pipeline.ValueKit

@[expose] public section

set_option maxRecDepth 16384

noncomputable section

namespace Cert.Kernel6Ideal.Own

open Cert.Kernel6Ideal Cert.Kernel6Ideal.Gen Cert.Kernel6Ideal.Value
open Idealize.ShloMosaic Idealize.ShloMosaic.TcCoe Idealize.SL.Sem
open scoped BigOperators

/-- The cotangent, and the weight, of whose columns the product took the first 2048. -/
abbrev G := Vec Ideal S4096x2048 .bf16
abbrev W := Vec Ideal S1024x6144 .bf16

/-- A column of the product, among the weight's. -/
def wcol (k : Fin 2048) : Fin 6144 := ⟨k.val, by omega⟩

/-- The gradient of the product's input. -/
def du (g : G) (w : W) (p : Fin 4096) (q : Fin 1024) : EReal := ∑ k : Fin 2048, g (ix2 p k) * w (ix2 q (wcol k))

variable (m : (ℓ : Loc nD τ sig) → Buf (Elt Ideal) ℓ)

/-! ## The blocks -/

theorem index0 : ∀ t : Fin cfg0.N, win0_0.index t = ![(grid0.coords t 0).val, 0] := by decide +kernel
theorem index1 : ∀ t : Fin cfg0.N, win0_1.index t = ![0, 0] := by decide +kernel
theorem index2 : ∀ t : Fin cfg0.N, win0_2.index t = ![(grid0.coords t 0).val, 0] := by decide +kernel

/-- Row `p` of point `t`'s block, in the array. -/
def row (t : Fin cfg0.N) (p : Fin 1024) : Fin 4096 :=
  ⟨(grid0.coords t 0).val * 1024 + p.val, by have : (grid0.coords t 0).val < 4 := (grid0.coords t 0).isLt; omega⟩

theorem blk0 (c : Dev nD) (t : Fin cfg0.N) (p : Fin 1024) (k : Fin 2048) :
    iblk m c 0 t (ix2 p k) = m ((c : Thread nD τ).loc main_arg0) (ix2 (row t p) k) := by
  blk_simp [iblk]
  exact congrArg _ (by blk_ext [index0, row])

theorem blk1 (c : Dev nD) (t : Fin cfg0.N) (q : Fin 1024) (k : Fin 2048) :
    iblk m c 1 t (ix2 q k) = m ((c : Thread nD τ).loc main_arg1) (ix2 q (wcol k)) := by
  blk_simp [iblk]
  exact congrArg _ (by blk_ext [index1, wcol])

/-! ## What the body stores -/

theorem out2 (x0 x1 : Vec Ideal S1024x2048 .bf16) (p q : Fin 1024) :
    out0_2 x0 x1 (ix2 p q) = ∑ k : Fin 2048, x0 (ix2 p k) * x1 (ix2 q k) := by
  unfold out0_2
  rw [View.canon_unit_zero (by funext a; fin_cases a <;> rfl)]
  pointwise [k0_pay1, dot_S1024x2048_S1024x2048_S1024x1024_1_1_0_0_n_n]

/-! ## The result array -/

theorem final2 (c : Dev nD) : (dats m 0 c).arrAt 2 cfg0.N = fun i : S4096x1024.Idx =>
    du (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  idx_vars y
  rw [out2]
  simp only [blk0, blk1]
  exact congrArg₂ (du _ _) (Fin.ext (by blk_simp [index2, row])) (Fin.ext (by blk_simp [index2]))

end Cert.Kernel6Ideal.Own

namespace Cert.Reference6Ideal.Own

open Cert.Reference6Ideal Cert.Reference6Ideal.Gen
open Idealize.ShloMosaic Idealize.ShloMosaic.TcCoe Idealize.SL.Sem
open Cert.Kernel6Ideal.Own (G W du wcol)
open scoped BigOperators

theorem du_eq (g : G) (w : W) : truncf .bf16 (Host.dotGeneral (F := Ideal) dot_S4096x2048_S1024x2048_S4096x1024_1_1_0_0_n_n none (extf .f32 g bitsLt_bf16_f32) (extf .f32 (extractStridedSlice S1024x2048 ![0, 0] w slices_S1024x6144_S1024x2048_0_0) bitsLt_bf16_f32)) bitsLt_bf16_f32
    = fun i : S4096x1024.Idx => du g w (i 0) (i 1) := by
  funext i
  idx_vars i
  pointwise [dot_S4096x2048_S1024x2048_S4096x1024_1_1_0_0_n_n, du, wcol]

end Cert.Reference6Ideal.Own

namespace Cert.Proof

open Idealize.ShloMosaic Idealize.SL.Sem

/-- The kernel's result is the gradient of the reference. -/
theorem algebraic6 : Cert.algebraic_Kernel6Ideal_Reference6Ideal := by
  intro m ρ m' ρ' _ hagree
  refine ⟨_, (θ_run Cert.Kernel6Ideal.defs _ _).mono (fun _ h c => ⟨(h c).1.trans (Cert.Kernel6Ideal.Own.final2 m c),
    (h c).2⟩) (Cert.Kernel6Ideal.Value.run_blocks (F := Ideal) m ρ), ?_⟩
  refine (θ_run Cert.Reference6Ideal.defs _ _).mono (fun _ h c => ⟨(h c).1.trans ?_, (h c).2⟩)
    (Cert.Reference6Ideal.Value.run (F := Ideal) m' ρ')
  rw [(hagree c).1, (hagree c).2]; exact Cert.Reference6Ideal.Own.du_eq _ _

end Cert.Proof

end
-- ==== Proof.Product7.lean ====
/-
  The gradient of the input projection's rows from the columns of the gates. Two grid points share a block of rows: the first
  leaves its half of the sum in a scratch accumulator, the second adds the other half and stores.
-/
module

public import proofs.«01_k».proof.Proof.Gen.Kernel7Ideal
public import proofs.«01_k».proof.Proof.Gen.Kernel7Ideal.Value
public import proofs.«01_k».proof.Proof.Gen.Reference7Ideal.Run
public import proofs.«01_k».proof.Defs
public import Idealize.ShloMosaic.Lib.Pipeline.ValueKit

@[expose] public section

set_option maxRecDepth 16384

noncomputable section

namespace Cert.Kernel7Ideal.Own

open Cert.Kernel7Ideal Cert.Kernel7Ideal.Gen Cert.Kernel7Ideal.Value
open Idealize.ShloMosaic Idealize.ShloMosaic.TcCoe Idealize.SL.Sem
open scoped BigOperators

/-- The cotangent, and the weight, of whose columns the product took the last 4096. -/
abbrev G := Vec Ideal S4096x4096 .bf16
abbrev W := Vec Ideal S1024x6144 .bf16

/-- A column of the product, among the weight's. -/
def wcol (k : Fin 4096) : Fin 6144 := ⟨2048 + k.val, by omega⟩

/-- The gradient of the product's input. -/
def du (g : G) (w : W) (p : Fin 4096) (q : Fin 1024) : EReal := ∑ k : Fin 4096, g (ix2 p k) * w (ix2 q (wcol k))

variable (m : (ℓ : Loc nD τ sig) → Buf (Elt Ideal) ℓ)

/-! ## The blocks -/

theorem index0 : ∀ t : Fin cfg0.N, win0_0.index t = ![(grid0.coords t 0).val, t.val % 2] := by decide +kernel
theorem index1 : ∀ t : Fin cfg0.N, win0_1.index t = ![0, 1 + t.val % 2] := by decide +kernel
theorem index2 : ∀ t : Fin cfg0.N, win0_2.index t = ![(grid0.coords t 0).val, 0] := by decide +kernel

/-- Row `p` of point `t`'s block, in the array. -/
def row (t : Fin cfg0.N) (p : Fin 1024) : Fin 4096 :=
  ⟨(grid0.coords t 0).val * 1024 + p.val, by have : (grid0.coords t 0).val < 4 := (grid0.coords t 0).isLt; omega⟩

/-- Column `k` of point `t`'s block, among the columns of the product. -/
def col (t : Fin cfg0.N) (k : Fin 2048) : Fin 4096 := ⟨t.val % 2 * 2048 + k.val, by omega⟩

theorem blk0 (c : Dev nD) (t : Fin cfg0.N) (p : Fin 1024) (k : Fin 2048) :
    iblk m c 0 t (ix2 p k) = m ((c : Thread nD τ).loc main_arg0) (ix2 (row t p) (col t k)) := by
  blk_simp [iblk]
  exact congrArg _ (by blk_ext [index0, row, col])

theorem blk1 (c : Dev nD) (t : Fin cfg0.N) (q : Fin 1024) (k : Fin 2048) :
    iblk m c 1 t (ix2 q k) = m ((c : Thread nD τ).loc main_arg1) (ix2 q (wcol (col t k))) := by
  blk_simp [iblk]
  exact congrArg _ (by blk_ext [index1, wcol, col])

/-! ## What the body stores -/

/-- The first of a row block's two points leaves its own product in the accumulator. -/
theorem first (c : Dev nD) (i : grid0.Coords) (a0 : Memref sig .tc .vmem S1024x2048 .bf16) (h0 : a0.IsWhole)
    (a1 : Memref sig .tc .vmem S1024x2048 .bf16) (h1 : a1.IsWhole) (a2 : Memref sig .tc .vmem S1024x1024 .bf16) (h2 : a2.IsWhole)
    (a3 : Memref sig .tc .vmem S1024x1024 .f32) (h3 : a3.IsWhole) (c0 : cond0_0 i) (c1 : ¬cond0_1 i) (c2 : ¬cond0_2 i)
    (x0 x1 : Vec Ideal S1024x2048 .bf16) (p q : Fin 1024) :
    sout0_A_0 c i a0 h0 a1 h1 a2 h2 a3 h3 c0 c1 c2 x0 x1 (ix2 p q) = ∑ k : Fin 2048, x0 (ix2 p k) * x1 (ix2 q k) := by
  unfold sout0_A_0 kernelRun0_A
  dsimp only
  frame_out
  pointwise [k0_pay2, k0_pay1, dot_S1024x2048_S1024x2048_S1024x1024_1_1_0_0_n_n]

/-- The second adds its own to it, and stores the sum. -/
theorem second (c : Dev nD) (i : grid0.Coords) (a0 : Memref sig .tc .vmem S1024x2048 .bf16) (h0 : a0.IsWhole)
    (a1 : Memref sig .tc .vmem S1024x2048 .bf16) (h1 : a1.IsWhole) (a2 : Memref sig .tc .vmem S1024x1024 .bf16) (h2 : a2.IsWhole)
    (a3 : Memref sig .tc .vmem S1024x1024 .f32) (h3 : a3.IsWhole) (c0 : ¬cond0_0 i) (c1 : cond0_1 i) (c2 : cond0_2 i)
    (x0 x1 : Vec Ideal S1024x2048 .bf16) (s : Vec Ideal S1024x1024 .f32) (p q : Fin 1024) :
    out0_B_2 c i a0 h0 a1 h1 a2 h2 a3 h3 c0 c1 c2 x0 x1 s (ix2 p q) = s (ix2 p q) + ∑ k : Fin 2048, x0 (ix2 p k) * x1 (ix2 q k) := by
  unfold out0_B_2 kernelRun0_B
  dsimp only
  frame_out
  pointwise [k0_pay4, k0_pay3, k0_pay1, dot_S1024x2048_S1024x2048_S1024x1024_1_1_0_0_n_n]

/-! ## The result array -/

/-- The second point of a row block comes after its first. -/
theorem before : ∀ t : Fin cfg0.N, t.val % 2 = 1 → ∀ h : t.val - 1 < cfg0.N,
    (grid0.coords ⟨t.val - 1, h⟩ 0).val = (grid0.coords t 0).val := by decide +kernel

theorem after2 (c : Dev nD) (t : Fin cfg0.N) (ht : t.val % 2 = 1) (p q : Fin 1024) :
    (outsAt0 m c t.val t.isLt).1 (ix2 p q)
      = du (m ((c : Thread nD τ).loc main_arg0)) (m ((c : Thread nD τ).loc main_arg1)) (row t p) q := by
  have hN : t.val - 1 < cfg0.N := by have := t.isLt; omega
  have hp : (t.val - 1) % 2 = 0 := by omega
  have hA := outsAt0_A m c ⟨t.val - 1, hN⟩ hp (by dsimp only; omega) (by dsimp only; omega)
  dsimp only at hA
  rw [outsAt0_B m c t (by omega) ht ht, hA]
  dsimp only
  rw [second, first]
  simp only [blk0, blk1]
  have hr : row ⟨t.val - 1, hN⟩ p = row t p := Fin.ext (by simp only [row, before t ht hN])
  rw [hr]
  unfold du
  rw [Fin.sum_univ_tiles 2 2048 rfl, Fin.sum_univ_two]
  simp only [col, hp, ht]
  rfl

theorem final2 (c : Dev nD) : (dats m 0 c).arrAt 2 cfg0.N = fun i : S4096x1024.Idx =>
    du (m ((c : Thread nD τ).loc main_arg0)) (m ((c : Thread nD τ).loc main_arg1)) (i 0) (i 1) := by
  refine (dats m 0 c).arrAt_eq_of_covers 2 _ (by decide +kernel) fun t hf y => ?_
  have ht : t.val % 2 = 1 := (flush0_2 t).mp hf
  blk_simp
  rw [after0_2]
  idx_vars y
  rw [after2 m c t ht]
  exact congrArg₂ (du _ _) (Fin.ext (by blk_simp [index2, row])) (Fin.ext (by blk_simp [index2]))

end Cert.Kernel7Ideal.Own

namespace Cert.Reference7Ideal.Own

open Cert.Reference7Ideal Cert.Reference7Ideal.Gen
open Idealize.ShloMosaic Idealize.ShloMosaic.TcCoe Idealize.SL.Sem
open Cert.Kernel7Ideal.Own (G W du wcol)
open scoped BigOperators

theorem du_eq (g : G) (w : W) : truncf .bf16 (Host.dotGeneral (F := Ideal) dot_S4096x4096_S1024x4096_S4096x1024_1_1_0_0_n_n none (extf .f32 g bitsLt_bf16_f32) (extf .f32 (extractStridedSlice S1024x4096 ![0, 2048] w slices_S1024x6144_S1024x4096_0_2048) bitsLt_bf16_f32)) bitsLt_bf16_f32
    = fun i : S4096x1024.Idx => du g w (i 0) (i 1) := by
  funext i
  idx_vars i
  pointwise [dot_S4096x4096_S1024x4096_S4096x1024_1_1_0_0_n_n, du, wcol]

end Cert.Reference7Ideal.Own

namespace Cert.Proof

open Idealize.ShloMosaic Idealize.SL.Sem

/-- The kernel's result is the gradient of the reference. -/
theorem algebraic7 : Cert.algebraic_Kernel7Ideal_Reference7Ideal := by
  intro m ρ m' ρ' _ hagree
  refine ⟨_, (θ_run Cert.Kernel7Ideal.defs _ _).mono (fun _ h c => ⟨(h c).1.trans ((Cert.Kernel7Ideal.Value.final2 m c).symm.trans
    (Cert.Kernel7Ideal.Own.final2 m c)), (h c).2⟩) (Cert.Kernel7Ideal.Value.run (F := Ideal) m ρ), ?_⟩
  refine (θ_run Cert.Reference7Ideal.defs _ _).mono (fun _ h c => ⟨(h c).1.trans ?_, (h c).2⟩)
    (Cert.Reference7Ideal.Value.run (F := Ideal) m' ρ')
  rw [(hagree c).1, (hagree c).2]; exact Cert.Reference7Ideal.Own.du_eq _ _

end Cert.Proof

end
-- ==== Proof.Product8.lean ====
/-
  The gradient of the input projection's rows from the columns of the attention, one product per grid point.
-/
module

public import proofs.«01_k».proof.Proof.Gen.Kernel8Ideal
public import proofs.«01_k».proof.Proof.Gen.Kernel8Ideal.Value
public import proofs.«01_k».proof.Proof.Gen.Reference8Ideal.Run
public import proofs.«01_k».proof.Defs
public import Idealize.ShloMosaic.Lib.Pipeline.ValueKit

@[expose] public section

set_option maxRecDepth 16384

noncomputable section

namespace Cert.Kernel8Ideal.Own

open Cert.Kernel8Ideal Cert.Kernel8Ideal.Gen Cert.Kernel8Ideal.Value
open Idealize.ShloMosaic Idealize.ShloMosaic.TcCoe Idealize.SL.Sem
open scoped BigOperators

/-- The cotangent and the weight. -/
abbrev G := Vec Ideal S5120x2176 .bf16
abbrev W := Vec Ideal S1024x2176 .bf16

/-- The gradient of the product's input. -/
def du (g : G) (w : W) (p : Fin 5120) (q : Fin 1024) : EReal := ∑ k : Fin 2176, g (ix2 p k) * w (ix2 q k)

variable (m : (ℓ : Loc nD τ sig) → Buf (Elt Ideal) ℓ)

/-! ## The blocks -/

theorem index0 : ∀ t : Fin cfg0.N, win0_0.index t = ![(grid0.coords t 0).val, 0] := by decide +kernel
theorem index1 : ∀ t : Fin cfg0.N, win0_1.index t = ![0, 0] := by decide +kernel
theorem index2 : ∀ t : Fin cfg0.N, win0_2.index t = ![(grid0.coords t 0).val, 0] := by decide +kernel

/-- Row `p` of point `t`'s block, in the array. -/
def row (t : Fin cfg0.N) (p : Fin 1024) : Fin 5120 :=
  ⟨(grid0.coords t 0).val * 1024 + p.val, by have : (grid0.coords t 0).val < 5 := (grid0.coords t 0).isLt; omega⟩

theorem blk0 (c : Dev nD) (t : Fin cfg0.N) (p : Fin 1024) (k : Fin 2176) :
    iblk m c 0 t (ix2 p k) = m ((c : Thread nD τ).loc main_arg0) (ix2 (row t p) k) := by
  blk_simp [iblk]
  exact congrArg _ (by blk_ext [index0, row])

theorem blk1 (c : Dev nD) (t : Fin cfg0.N) (q : Fin 1024) (k : Fin 2176) :
    iblk m c 1 t (ix2 q k) = m ((c : Thread nD τ).loc main_arg1) (ix2 q k) := by
  blk_simp [iblk]
  exact congrArg _ (by blk_ext [index1])

/-! ## What the body stores -/

theorem out2 (x0 x1 : Vec Ideal S1024x2176 .bf16) (p q : Fin 1024) :
    out0_2 x0 x1 (ix2 p q) = ∑ k : Fin 2176, x0 (ix2 p k) * x1 (ix2 q k) := by
  unfold out0_2
  rw [View.canon_unit_zero (by funext a; fin_cases a <;> rfl)]
  pointwise [k0_pay1, dot_S1024x2176_S1024x2176_S1024x1024_1_1_0_0_n_n]

/-! ## The result array -/

theorem final2 (c : Dev nD) : (dats m 0 c).arrAt 2 cfg0.N = fun i : S5120x1024.Idx =>
    du (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  idx_vars y
  rw [out2]
  simp only [blk0, blk1]
  exact congrArg₂ (du _ _) (Fin.ext (by blk_simp [index2, row])) (Fin.ext (by blk_simp [index2]))

end Cert.Kernel8Ideal.Own

namespace Cert.Reference8Ideal.Own

open Cert.Reference8Ideal Cert.Reference8Ideal.Gen
open Idealize.ShloMosaic Idealize.ShloMosaic.TcCoe Idealize.SL.Sem
open Cert.Kernel8Ideal.Own (G W du)
open scoped BigOperators

theorem du_eq (g : G) (w : W) : truncf .bf16 (Host.dotGeneral (F := Ideal) dot_S5120x2176_S1024x2176_S5120x1024_1_1_0_0_n_n none (extf .f32 g bitsLt_bf16_f32) (extf .f32 w bitsLt_bf16_f32)) bitsLt_bf16_f32
    = fun i : S5120x1024.Idx => du g w (i 0) (i 1) := by
  funext i
  idx_vars i
  pointwise [dot_S5120x2176_S1024x2176_S5120x1024_1_1_0_0_n_n, du]

end Cert.Reference8Ideal.Own

namespace Cert.Proof

open Idealize.ShloMosaic Idealize.SL.Sem

/-- The kernel's result is the gradient of the reference. -/
theorem algebraic8 : Cert.algebraic_Kernel8Ideal_Reference8Ideal := by
  intro m ρ m' ρ' _ hagree
  refine ⟨_, (θ_run Cert.Kernel8Ideal.defs _ _).mono (fun _ h c => ⟨(h c).1.trans (Cert.Kernel8Ideal.Own.final2 m c),
    (h c).2⟩) (Cert.Kernel8Ideal.Value.run_blocks (F := Ideal) m ρ), ?_⟩
  refine (θ_run Cert.Reference8Ideal.defs _ _).mono (fun _ h c => ⟨(h c).1.trans ?_, (h c).2⟩)
    (Cert.Reference8Ideal.Value.run (F := Ideal) m' ρ')
  rw [(hagree c).1, (hagree c).2]; exact Cert.Reference8Ideal.Own.du_eq _ _

end Cert.Proof

end
-- ==== Proof.Product9.lean ====
/-
  The input projection of the latent rows: the columns of the convolution's branch, of its gate and of the other gates. One
  product for each block of rows and of columns, with the bias added.
-/
module

public import proofs.«01_k».proof.Proof.Gen.Kernel9Ideal
public import proofs.«01_k».proof.Proof.Gen.Kernel9Ideal.Value
public import proofs.«01_k».proof.Proof.Gen.Reference9Ideal.Run
public import proofs.«01_k».proof.Defs
public import Idealize.ShloMosaic.Lib.Pipeline.ValueKit

@[expose] public section

set_option maxRecDepth 16384

noncomputable section

namespace Cert.Kernel9Ideal.Own

open Cert.Kernel9Ideal Cert.Kernel9Ideal.Gen Cert.Kernel9Ideal.Value
open Idealize.ShloMosaic Idealize.ShloMosaic.TcCoe Idealize.SL.Sem
open scoped BigOperators

/-- The inputs of the product, with the 512 rows of the tail after each example's 2048; the weight; and the bias. -/
abbrev U := Vec Ideal S2x2560x1024 .bf16
abbrev W := Vec Ideal S1024x6144 .bf16
abbrev B := Vec Ideal S1x6144 .f32

/-- The example and the token of a row of the result. -/
def ex (p : Fin 4096) : Fin 2 := ⟨p.val / 2048, by omega⟩
def tok (p : Fin 4096) : Fin 2560 := ⟨p.val % 2048, by omega⟩

/-- The projection. -/
def proj (u : U) (w : W) (b : B) (p : Fin 4096) (q : Fin 6144) : EReal :=
  ∑ k : Fin 1024, u (ix3 (ex p) (tok p) k) * w (ix2 k q) + b (ix2 0 q)

variable (m : (ℓ : Loc nD τ sig) → Buf (Elt Ideal) ℓ)

/-! ## The blocks -/

theorem index0 : ∀ t : Fin cfg0.N, win0_0.index t = ![(grid0.coords t 1).val / 2, (grid0.coords t 1).val % 2, 0] := by decide +kernel
theorem index1 : ∀ t : Fin cfg0.N, win0_1.index t = ![0, (grid0.coords t 0).val] := by decide +kernel
theorem index2 : ∀ t : Fin cfg0.N, win0_2.index t = ![0, (grid0.coords t 0).val] := by decide +kernel
theorem index3 : ∀ t : Fin cfg0.N, win0_3.index t = ![(grid0.coords t 1).val, (grid0.coords t 0).val] := by decide +kernel

/-- Row `p` and column `q` of point `t`'s block, in the result. -/
def row (t : Fin cfg0.N) (p : Fin 1024) : Fin 4096 :=
  ⟨(grid0.coords t 1).val * 1024 + p.val, by have : (grid0.coords t 1).val < 4 := (grid0.coords t 1).isLt; omega⟩
def col (t : Fin cfg0.N) (q : Fin 2048) : Fin 6144 :=
  ⟨(grid0.coords t 0).val * 2048 + q.val, by have : (grid0.coords t 0).val < 3 := (grid0.coords t 0).isLt; omega⟩

theorem blk0 (c : Dev nD) (t : Fin cfg0.N) (z : Fin 1) (p : Fin 1024) (k : Fin 1024) :
    X0_0 m c t (ix3 z p k) = m ((c : Thread nD τ).loc main_arg0) (ix3 (ex (row t p)) (tok (row t p)) k) := by
  unfold X0_0 Pipeline.Window.fill
  rw [dif_pos (moved0_0 t _)]
  blk_simp [iblk]
  exact congrArg _ (by blk_ext [index0, row, ex, tok])

theorem blk1 (c : Dev nD) (t : Fin cfg0.N) (k : Fin 1024) (q : Fin 2048) :
    iblk m c 1 t (ix2 k q) = m ((c : Thread nD τ).loc main_arg1) (ix2 k (col t q)) := by
  blk_simp [iblk]
  exact congrArg _ (by blk_ext [index1, col])

theorem blk2 (c : Dev nD) (t : Fin cfg0.N) (z : Fin 1) (q : Fin 2048) :
    iblk m c 2 t (ix2 z q) = m ((c : Thread nD τ).loc main_arg2) (ix2 0 (col t q)) := by
  blk_simp [iblk]
  exact congrArg _ (by blk_ext [index2, col])

/-! ## What the body stores -/

theorem out3 (c : Dev nD) (i : grid0.Coords) (a0 : Memref sig .tc .vmem S1x1024x1024 .bf16) (h0 : a0.IsWhole)
    (a1 : Memref sig .tc .vmem S1024x2048 .bf16) (h1 : a1.IsWhole) (a2 : Memref sig .tc .vmem S1x2048 .f32) (h2 : a2.IsWhole)
    (a3 : Memref sig .tc .vmem S1024x2048 .f32) (h3 : a3.IsWhole) (x0 : Vec Ideal S1x1024x1024 .bf16) (x1 : Vec Ideal S1024x2048 .bf16)
    (x2 : Vec Ideal S1x2048 .f32) (p : Fin 1024) (q : Fin 2048) : out0_A_3 c i a0 h0 a1 h1 a2 h2 a3 h3 x0 x1 x2 (ix2 p q)
      = ∑ k : Fin 1024, x0 (ix3 0 p k) * x1 (ix2 k q) + x2 (ix2 0 q) := by
  unfold out0_A_3 kernelRun0_A
  dsimp only
  frame_out
  pointwise [k0_pay1, dot_S1024x1024_S1024x2048_S1024x2048_1_0_0_1_n_n]

/-! ## The result array -/

theorem final3 (c : Dev nD) : (dats m 0 c).arrAt 3 cfg0.N = fun i : S4096x6144.Idx =>
    proj (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  idx_vars y
  unfold outsAt0
  rw [out3]
  simp only [blk0, blk1, blk2]
  exact congrArg₂ (proj _ _ _) (Fin.ext (by blk_simp [index3, row])) (Fin.ext (by blk_simp [index3, col]))

end Cert.Kernel9Ideal.Own

namespace Cert.Reference9Ideal.Own

open Cert.Reference9Ideal Cert.Reference9Ideal.Gen
open Idealize.ShloMosaic Idealize.ShloMosaic.TcCoe Idealize.SL.Sem
open Cert.Kernel9Ideal.Own (U W B proj ex tok)
open scoped BigOperators

theorem proj_eq (u : U) (w : W) (b : B) : shapeCast S4096x6144 (addf (Host.dotGeneral (F := Ideal) dot_S2x2048x1024_S1024x6144_S2x2048x6144_2_0_01_1_n_n none (extf .f32 (extractStridedSlice S2x2048x1024 ![0, 0, 0] u slices_S2x2560x1024_S2x2048x1024_0_0_0) bitsLt_bf16_f32) (extf .f32 w bitsLt_bf16_f32)) (broadcastInDim S2x2048x6144 ![0, 1, 2] bcast_S1x1x6144_S2x2048x6144_0_1_2 (broadcastInDim S1x1x6144 ![2] bcast_S6144_S1x1x6144_2 (shapeCast S6144 b shapeCasts_S1x6144_S6144)))) shapeCasts_S2x2048x6144_S4096x6144
    = fun i : S4096x6144.Idx => proj u w b (i 0) (i 1) := by
  funext i
  idx_vars i
  pointwise [dot_S2x2048x1024_S1024x6144_S2x2048x6144_2_0_01_1_n_n, proj, ex, tok]

end Cert.Reference9Ideal.Own

namespace Cert.Proof

open Idealize.ShloMosaic Idealize.SL.Sem

/-- The kernel's result is the reference's projection. -/
theorem algebraic9 : Cert.algebraic_Kernel9Ideal_Reference9Ideal := by
  intro m ρ m' ρ' _ hagree
  refine ⟨_, (θ_run Cert.Kernel9Ideal.defs _ _).mono (fun _ h c => ⟨(h c).1.trans (Cert.Kernel9Ideal.Own.final3 m c),
    (h c).2⟩) (Cert.Kernel9Ideal.Value.run_blocks (F := Ideal) m ρ), ?_⟩
  refine (θ_run Cert.Reference9Ideal.defs _ _).mono (fun _ h c => ⟨(h c).1.trans ?_, (h c).2⟩)
    (Cert.Reference9Ideal.Value.run (F := Ideal) m' ρ')
  rw [(hagree c).1, (hagree c).2.1, (hagree c).2.2]; exact Cert.Reference9Ideal.Own.proj_eq _ _ _

end Cert.Proof

end
-- ==== Proof.Gate.lean ====
/-
  The gates: the log of the sigmoid and its derivative, and `silu` and its derivative, over the extended reals: as a kernel
  computes them and as a reference prints them.
-/
module

public import Idealize.ShloMosaic.Lib.Pointwise
public import Idealize.ShloMosaic.PureOps.Ideal.Laws

@[expose] public section

noncomputable section

namespace Cert.Gate

open Idealize.ShloMosaic

/-- The log of the sigmoid, as the kernel computes it. -/
def logSigmoid (x : EReal) : EReal := min x 0 - Ideal.log (1 + Ideal.exp (0 - max x (-x)))

/-- `log (e^x + 1)`, as the reference prints it. -/
def softplus (x : EReal) : EReal := max x 0 + Ideal.log1p (Ideal.exp (-max x (-x)))

theorem log_one : Ideal.log 1 = 0 := by
  rw [← EReal.coe_one, Ideal.log_coe, if_neg (by norm_num), Real.log_one, EReal.coe_zero]

theorem log_one_add_exp (r : ℝ) : Ideal.log (1 + Ideal.exp (r : EReal)) = (Real.log (1 + Real.exp r) : ℝ) := by
  have h : ¬(1 + Real.exp r : ℝ) ≤ 0 := not_le.mpr (by positivity)
  rw [Ideal.exp_coe, ← EReal.coe_one, ← EReal.coe_add, Ideal.log_coe, if_neg h]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem softplus_coe (r : ℝ) : softplus r = (Real.log (1 + Real.exp r) : ℝ) := by
  unfold softplus Ideal.log1p
  rw [← EReal.coe_neg, coe_max, ← EReal.coe_neg, log_one_add_exp, ← EReal.coe_zero, coe_max, ← EReal.coe_add]
  congr 1
  rcases le_total 0 r with h | h
  · rw [max_eq_left h, max_eq_left (by linarith)]
    have : (1 + Real.exp r) = Real.exp r * (1 + Real.exp (-r)) := by rw [mul_add, mul_one, ← Real.exp_add, add_neg_cancel, Real.exp_zero, add_comm]
    rw [this, Real.log_mul (Real.exp_ne_zero _) (by positivity), Real.log_exp]
  · rw [max_eq_right h, max_eq_right (by linarith), neg_neg, zero_add]

theorem softplus_top : softplus ⊤ = ⊤ := by
  unfold softplus Ideal.log1p
  rw [EReal.neg_top, max_eq_left bot_le, max_eq_left le_top, EReal.neg_top, Ideal.exp_bot, add_zero, log_one, add_zero]

theorem softplus_bot : softplus ⊥ = 0 := by
  unfold softplus Ideal.log1p
  rw [EReal.neg_bot, max_eq_right bot_le, max_eq_right bot_le, EReal.neg_top, Ideal.exp_bot, add_zero, log_one, add_zero]

/-- The log of the sigmoid is minus `log (e^(-x) + 1)`. -/
theorem neg_softplus (x : EReal) : -softplus (-x) = logSigmoid x := by
  induction x with
  | bot =>
    unfold logSigmoid
    rw [EReal.neg_bot, softplus_top, EReal.neg_top, max_eq_right bot_le, zero_sub, EReal.neg_top, Ideal.exp_bot, add_zero, log_one,
      min_eq_left bot_le, sub_zero]
  | top =>
    unfold logSigmoid
    rw [EReal.neg_top, softplus_bot, neg_zero, max_eq_left bot_le, zero_sub, EReal.neg_top, Ideal.exp_bot, add_zero, log_one,
      min_eq_right le_top, sub_zero]
  | coe r =>
    rw [← EReal.coe_neg, softplus_coe]
    unfold logSigmoid
    rw [← EReal.coe_neg r, coe_max, zero_sub, ← EReal.coe_neg (max _ _), log_one_add_exp, ← EReal.coe_zero, coe_min, ← EReal.coe_sub, ← EReal.coe_neg]
    congr 1
    rcases le_total 0 r with h | h
    · rw [min_eq_right h, max_eq_left (by linarith), zero_sub]
    · rw [min_eq_left h, max_eq_right (by linarith), neg_neg]
      have : (1 + Real.exp (-r)) = Real.exp (-r) * (1 + Real.exp r) := by
        rw [mul_add, mul_one, ← Real.exp_add, neg_add_cancel, Real.exp_zero, add_comm]
      rw [this, Real.log_mul (Real.exp_ne_zero _) (by positivity), Real.log_exp]; ring

/-! ## The constants -/

theorem absf_eq (x : EReal) : FloatOps.absf (F := Ideal) (φ := .f32) x = max x (-x) := rfl

theorem ofBits_inv16 : Ideal.ofBits .f32 1031798784#32 = ((1 / 16 : ℝ) : EReal) := by
  simp [Ideal.ofBits, Ideal.ieee]
  norm_num
  rw [← EReal.coe_mul]
  norm_num

theorem ofBits_16 : Ideal.ofBits .f32 1098907648#32 = ((16 : ℝ) : EReal) := by
  simp [Ideal.ofBits, Ideal.ieee]
  norm_num
  rw [← EReal.coe_mul]
  norm_num

theorem ofBits_half : Ideal.ofBits .f32 1056964608#32 = ((1 / 2 : ℝ) : EReal) := by
  simp [Ideal.ofBits, Ideal.ieee]
  norm_num
  rw [← EReal.coe_mul]
  norm_num

theorem ofBits_inf : Ideal.ofBits .f32 2139095040#32 = ⊤ := by
  simp [Ideal.ofBits, Ideal.ieee]

theorem div_16 (x : EReal) : Ideal.div x ((16 : ℝ) : EReal) = x * ((1 / 16 : ℝ) : EReal) := by
  unfold Ideal.div
  rw [if_neg (by simp), ← EReal.coe_inv]
  norm_num

/-! ## The derivative -/

/-- The sigmoid, as the kernel computes it. -/
def sigmoid (x : EReal) : EReal := ((1 / 2 : ℝ) : EReal) * Ideal.tanh (((1 / 2 : ℝ) : EReal) * x) + ((1 / 2 : ℝ) : EReal)

/-- The derivative of `log (e^x + 1)`, as the reference prints it: `e^(x - log (e^x + 1))`, with zero in an infinity's place. -/
def dsoftplus (x : EReal) : EReal := Ideal.exp ((if x = ⊤ then 0 else x) - (if softplus x = ⊤ then 0 else softplus x))

theorem dsoftplus_eq (x : EReal) : dsoftplus x = sigmoid x := by
  unfold dsoftplus sigmoid
  induction x with
  | bot =>
    rw [softplus_bot, if_neg bot_ne_top, if_neg EReal.zero_ne_top, sub_zero, Ideal.exp_bot,
      EReal.coe_mul_bot_of_pos (by norm_num), Ideal.tanh_bot, mul_neg, mul_one, ← EReal.coe_neg, ← EReal.coe_add]
    norm_num
  | top =>
    rw [softplus_top, if_pos rfl, sub_zero, ← EReal.coe_zero, Ideal.exp_coe, Real.exp_zero,
      EReal.coe_mul_top_of_pos (by norm_num), Ideal.tanh_top, mul_one, ← EReal.coe_add]
    norm_num
  | coe r =>
    rw [softplus_coe, if_neg (EReal.coe_ne_top _), if_neg (EReal.coe_ne_top _), ← EReal.coe_sub, Ideal.exp_coe, ← EReal.coe_mul,
      Ideal.tanh_coe, ← EReal.coe_mul, ← EReal.coe_add]
    congr 1
    rw [Real.exp_sub, Real.exp_log (by positivity), Real.tanh_eq_sinh_div_cosh, Real.sinh_eq, Real.cosh_eq]
    have h : Real.exp r = Real.exp (1 / 2 * r) * Real.exp (1 / 2 * r) := by rw [← Real.exp_add]; ring_nf
    have h' : Real.exp (-(1 / 2 * r)) = (Real.exp (1 / 2 * r))⁻¹ := Real.exp_neg _
    rw [h, h']
    have hp := Real.exp_pos (1 / 2 * r)
    field_simp
    ring

theorem sigmoid_bot : sigmoid ⊥ = 0 := by
  unfold sigmoid
  rw [EReal.coe_mul_bot_of_pos (by norm_num), Ideal.tanh_bot, mul_neg, mul_one, ← EReal.coe_neg, ← EReal.coe_add]
  norm_num

theorem sigmoid_top : sigmoid ⊤ = 1 := by
  unfold sigmoid
  rw [EReal.coe_mul_top_of_pos (by norm_num), Ideal.tanh_top, mul_one, ← EReal.coe_add]
  norm_num

theorem sigmoid_coe (r : ℝ) : sigmoid r = ((1 / 2 * Real.tanh (1 / 2 * r) + 1 / 2 : ℝ) : EReal) := by
  unfold sigmoid
  rw [← EReal.coe_mul, Ideal.tanh_coe, ← EReal.coe_mul, ← EReal.coe_add]

/-- The sigmoid, as the reference prints it. -/
theorem sigmoid_eq (x : EReal) : Ideal.div 1 (1 + Ideal.exp (-x)) = sigmoid x := by
  induction x with
  | bot =>
    rw [sigmoid_bot, EReal.neg_bot, Ideal.exp_top, ← EReal.coe_one, EReal.coe_add_top]
    unfold Ideal.div
    rw [if_neg (by simp), EReal.inv_top, mul_zero]
  | top =>
    rw [sigmoid_top, EReal.neg_top, Ideal.exp_bot, add_zero, ← EReal.coe_one, Ideal.div_coe one_ne_zero, ← EReal.coe_mul]
    norm_num
  | coe r =>
    rw [sigmoid_coe, ← EReal.coe_neg, Ideal.exp_coe, ← EReal.coe_one, ← EReal.coe_add,
      Ideal.div_coe (by positivity), ← EReal.coe_mul]
    congr 1
    have h := Real.exp_pos (1 / 2 * r)
    have e : Real.exp (-r) = (Real.exp (1 / 2 * r))⁻¹ * (Real.exp (1 / 2 * r))⁻¹ := by
      rw [← Real.exp_neg, ← Real.exp_add]
      congr 1
      ring
    rw [Real.tanh_eq_sinh_div_cosh, Real.sinh_eq, Real.cosh_eq, Real.exp_neg (1 / 2 * r), e]
    field_simp
    ring

/-- The derivative of `x * sigmoid x`; -/
def slope (x : EReal) : EReal := sigmoid x * (1 + x * (1 - sigmoid x))

/-- as the reference prints it. -/
theorem slope_eq (x : EReal) : sigmoid x + x * (sigmoid x * (1 - sigmoid x)) = slope x := by
  unfold slope
  induction x with
  | bot => rw [sigmoid_bot, zero_mul, mul_zero, zero_mul, zero_add]
  | top =>
    have h : (1 : EReal) - 1 = 0 := by rw [← EReal.coe_one, ← EReal.coe_sub, sub_self, EReal.coe_zero]
    rw [sigmoid_top, h, mul_zero, mul_zero, add_zero, mul_one]
  | coe r =>
    rw [sigmoid_coe, ← EReal.coe_one]
    simp only [← EReal.coe_sub, ← EReal.coe_mul, ← EReal.coe_add]
    congr 1
    ring

end Cert.Gate

end
-- ==== Proof.Product10.lean ====
/-
  The second input projection: queries and keys, values, and the decay's low-rank columns, one product with the bias added;
  and the log of each token's gate, the log of the sigmoid of a second product, over the gate's temperature.
-/
module

public import proofs.«01_k».proof.Proof.Gen.Kernel10Ideal
public import proofs.«01_k».proof.Proof.Gen.Kernel10Ideal.Value
public import proofs.«01_k».proof.Proof.Gen.Reference10Ideal.Run
public import proofs.«01_k».proof.Proof.Gate
public import proofs.«01_k».proof.Defs
public import Idealize.ShloMosaic.Lib.Pipeline.ValueKit

@[expose] public section

set_option maxRecDepth 16384

noncomputable section

namespace Cert.Kernel10Ideal.Own

open Cert.Kernel10Ideal Cert.Kernel10Ideal.Gen Cert.Kernel10Ideal.Value
open Idealize.ShloMosaic Idealize.ShloMosaic.TcCoe Idealize.SL.Sem
open scoped BigOperators

/-- The inputs of the product; the weight and the bias; and the weight and the bias of the decay's second product. -/
abbrev U := Vec Ideal S5120x1024 .bf16
abbrev W := Vec Ideal S1024x2176 .bf16
abbrev B := Vec Ideal S1x2176 .f32
abbrev W2 := Vec Ideal S128x1024 .f32
abbrev B2 := Vec Ideal S1x1024 .f32

/-- The projection: columns 0 to 1024 are the queries and keys, 1024 to 2048 the values, and the last 128 the decay's. -/
def full (u : U) (w : W) (b : B) (p : Fin 5120) (q : Fin 2176) : EReal :=
  ∑ k : Fin 1024, u (ix2 p k) * w (ix2 k q) + b (ix2 0 q)

/-- The queries, the keys and the decay's columns side by side. -/
def colA (q : Fin 1152) : Fin 2176 := ⟨if q.val < 1024 then q.val else 1024 + q.val, by split <;> omega⟩
def colV (q : Fin 1024) : Fin 2176 := ⟨1024 + q.val, by omega⟩
def colL (k : Fin 128) : Fin 2176 := ⟨2048 + k.val, by omega⟩

def outA (u : U) (w : W) (b : B) (p : Fin 5120) (q : Fin 1152) : EReal := full u w b p (colA q)
def outV (u : U) (w : W) (b : B) (p : Fin 5120) (q : Fin 1024) : EReal := full u w b p (colV q)

/-- The gates before the sigmoid. -/
def logits (u : U) (w : W) (b : B) (w2 : W2) (b2 : B2) (p : Fin 5120) (q : Fin 1024) : EReal :=
  ∑ k : Fin 128, full u w b p (colL k) * w2 (ix2 k q) + b2 (ix2 0 q)

def gate (u : U) (w : W) (b : B) (w2 : W2) (b2 : B2) (p : Fin 5120) (q : Fin 1024) : EReal :=
  Gate.logSigmoid (logits u w b w2 b2 p q) * ((1 / 16 : ℝ) : EReal)

variable (m : (ℓ : Loc nD τ sig) → Buf (Elt Ideal) ℓ)

/-! ## The blocks -/

theorem index0 : ∀ t : Fin cfg0.N, win0_0.index t = ![(grid0.coords t 0).val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![(grid0.coords t 0).val, 0] := by decide +kernel
theorem index6 : ∀ t : Fin cfg0.N, win0_6.index t = ![(grid0.coords t 0).val, 0] := by decide +kernel
theorem index7 : ∀ t : Fin cfg0.N, win0_7.index t = ![(grid0.coords t 0).val, 0] := by decide +kernel

/-- Row `p` of point `t`'s block. -/
def row (t : Fin cfg0.N) (p : Fin 1024) : Fin 5120 :=
  ⟨(grid0.coords t 0).val * 1024 + p.val, by have : (grid0.coords t 0).val < 5 := (grid0.coords t 0).isLt; omega⟩

theorem blk0 (c : Dev nD) (t : Fin cfg0.N) (p : Fin 1024) (k : Fin 1024) :
    iblk m c 0 t (ix2 p k) = m ((c : Thread nD τ).loc main_arg0) (ix2 (row t p) k) := by
  blk_simp [iblk]
  exact congrArg _ (by blk_ext [index0, row])

theorem blk1 (c : Dev nD) (t : Fin cfg0.N) (k : Fin 1024) (q : Fin 2176) :
    iblk m c 1 t (ix2 k q) = m ((c : Thread nD τ).loc main_arg1) (ix2 k q) := by
  blk_simp [iblk]
  exact congrArg _ (by blk_ext [index1])

theorem blk2 (c : Dev nD) (t : Fin cfg0.N) (z : Fin 1) (q : Fin 2176) :
    iblk m c 2 t (ix2 z q) = m ((c : Thread nD τ).loc main_arg2) (ix2 0 q) := by
  blk_simp [iblk]
  exact congrArg _ (by blk_ext [index2])

theorem blk3 (c : Dev nD) (t : Fin cfg0.N) (k : Fin 128) (q : Fin 1024) :
    iblk m c 3 t (ix2 k q) = m ((c : Thread nD τ).loc main_arg3) (ix2 k q) := by
  blk_simp [iblk]
  exact congrArg _ (by blk_ext [index3])

theorem blk4 (c : Dev nD) (t : Fin cfg0.N) (z : Fin 1) (q : Fin 1024) :
    iblk m c 4 t (ix2 z q) = m ((c : Thread nD τ).loc main_arg4) (ix2 0 q) := by
  blk_simp [iblk]
  exact congrArg _ (by blk_ext [index4])

/-! ## What the body stores -/

/-- The block's projection. -/
def blkFull (x0 : Vec Ideal S1024x1024 .bf16) (x1 : W) (x2 : B) (p : Fin 1024) (q : Fin 2176) : EReal :=
  ∑ k : Fin 1024, x0 (ix2 p k) * x1 (ix2 k q) + x2 (ix2 0 q)

theorem pay1_eq (x0 : Vec Ideal S1024x1024 .bf16) (x1 : W) (x2 : B) :
    k0_pay1 (F := Ideal) x0 x1 x2 = fun i : S1024x2176.Idx => blkFull x0 x1 x2 (i 0) (i 1) := by
  funext i
  idx_vars i
  pointwise [k0_pay1, dot_S1024x1024_S1024x2176_S1024x2176_1_0_0_1_n_n, blkFull]

theorem out5 (c : Dev nD) (i : grid0.Coords) (a0 : Memref sig .tc .vmem S1024x1024 .bf16) (h0 : a0.IsWhole)
    (a1 : Memref sig .tc .vmem S1024x2176 .bf16) (h1 : a1.IsWhole) (a2 : Memref sig .tc .vmem S1x2176 .f32) (h2 : a2.IsWhole)
    (a3 : Memref sig .tc .vmem S128x1024 .f32) (h3 : a3.IsWhole) (a4 : Memref sig .tc .vmem S1x1024 .f32) (h4 : a4.IsWhole)
    (a5 : Memref sig .tc .vmem S1024x1152 .f32) (h5 : a5.IsWhole) (a6 : Memref sig .tc .vmem S1024x1024 .bf16) (h6 : a6.IsWhole)
    (a7 : Memref sig .tc .vmem S1024x1024 .f32) (h7 : a7.IsWhole) (x0 : Vec Ideal S1024x1024 .bf16) (x1 : W) (x2 : B) (x3 : W2) (x4 : B2)
    (p : Fin 1024) (q : Fin 1152) :
    out0_A_5 c i a0 h0 a1 h1 a2 h2 a3 h3 a4 h4 a5 h5 a6 h6 a7 h7 x0 x1 x2 x3 x4 (ix2 p q) = blkFull x0 x1 x2 p (colA q) := by
  unfold out0_A_5 kernelRun0_A
  dsimp only
  frame_out
  canon_tiles y e using View.cover_of_tiledBy _ ![1024, 128] (by sl_kernel_rfl) _
  · idx_vars y
    unfold k0_pay2
    rw [pay1_eq]
    pointwise
    exact congrArg₂ (blkFull _ _ _) (Fin.ext (by omega)) (Fin.ext (by dsimp only [colA]; split_ifs <;> omega))
  · idx_vars y
    unfold k0_pay3
    rw [pay1_eq]
    pointwise
    exact congrArg₂ (blkFull _ _ _) (Fin.ext (by omega)) (Fin.ext (by dsimp only [colA]; split_ifs <;> omega))

theorem out6 (c : Dev nD) (i : grid0.Coords) (a0 : Memref sig .tc .vmem S1024x1024 .bf16) (h0 : a0.IsWhole)
    (a1 : Memref sig .tc .vmem S1024x2176 .bf16) (h1 : a1.IsWhole) (a2 : Memref sig .tc .vmem S1x2176 .f32) (h2 : a2.IsWhole)
    (a3 : Memref sig .tc .vmem S128x1024 .f32) (h3 : a3.IsWhole) (a4 : Memref sig .tc .vmem S1x1024 .f32) (h4 : a4.IsWhole)
    (a5 : Memref sig .tc .vmem S1024x1152 .f32) (h5 : a5.IsWhole) (a6 : Memref sig .tc .vmem S1024x1024 .bf16) (h6 : a6.IsWhole)
    (a7 : Memref sig .tc .vmem S1024x1024 .f32) (h7 : a7.IsWhole) (x0 : Vec Ideal S1024x1024 .bf16) (x1 : W) (x2 : B) (x3 : W2) (x4 : B2)
    (p : Fin 1024) (q : Fin 1024) :
    out0_A_6 c i a0 h0 a1 h1 a2 h2 a3 h3 a4 h4 a5 h5 a6 h6 a7 h7 x0 x1 x2 x3 x4 (ix2 p q) = blkFull x0 x1 x2 p (colV q) := by
  unfold out0_A_6 kernelRun0_A
  dsimp only
  frame_out
  unfold k0_pay4
  rw [pay1_eq]
  pointwise [colV]

theorem out7 (c : Dev nD) (i : grid0.Coords) (a0 : Memref sig .tc .vmem S1024x1024 .bf16) (h0 : a0.IsWhole)
    (a1 : Memref sig .tc .vmem S1024x2176 .bf16) (h1 : a1.IsWhole) (a2 : Memref sig .tc .vmem S1x2176 .f32) (h2 : a2.IsWhole)
    (a3 : Memref sig .tc .vmem S128x1024 .f32) (h3 : a3.IsWhole) (a4 : Memref sig .tc .vmem S1x1024 .f32) (h4 : a4.IsWhole)
    (a5 : Memref sig .tc .vmem S1024x1152 .f32) (h5 : a5.IsWhole) (a6 : Memref sig .tc .vmem S1024x1024 .bf16) (h6 : a6.IsWhole)
    (a7 : Memref sig .tc .vmem S1024x1024 .f32) (h7 : a7.IsWhole) (x0 : Vec Ideal S1024x1024 .bf16) (x1 : W) (x2 : B) (x3 : W2) (x4 : B2)
    (p : Fin 1024) (q : Fin 1024) :
    out0_A_7 c i a0 h0 a1 h1 a2 h2 a3 h3 a4 h4 a5 h5 a6 h6 a7 h7 x0 x1 x2 x3 x4 (ix2 p q)
      = Gate.logSigmoid (∑ k : Fin 128, blkFull x0 x1 x2 p (colL k) * x3 (ix2 k q) + x4 (ix2 0 q)) * ((1 / 16 : ℝ) : EReal) := by
  unfold out0_A_7 kernelRun0_A
  dsimp only
  frame_out
  unfold k0_pay5 k0_pay2
  rw [pay1_eq]
  pointwise [dot_S1024x128_S128x1024_S1024x1024_1_0_0_1_n_n, colL, Gate.logSigmoid, Gate.absf_eq, Gate.ofBits_inv16]

/-! ## The result arrays -/

theorem final5 (c : Dev nD) : (dats m 0 c).arrAt 5 cfg0.N = fun i : S5120x1152.Idx =>
    outA (m ((c : Thread nD τ).loc main_arg0)) (m ((c : Thread nD τ).loc main_arg1)) (m ((c : Thread nD τ).loc main_arg2)) (i 0) (i 1) := by
  refine (dats m 0 c).arrAt_eq_of_covers 5 _ (by decide +kernel) fun t hf y => ?_
  blk_simp
  rw [after0_5]
  idx_vars y
  unfold outsAt0
  dsimp only
  rw [out5]
  simp only [blkFull, blk0, blk1, blk2]
  exact congrArg₂ (outA _ _ _) (Fin.ext (by blk_simp [index5, row])) (Fin.ext (by blk_simp [index5]))

theorem final6 (c : Dev nD) : (dats m 0 c).arrAt 6 cfg0.N = fun i : S5120x1024.Idx =>
    outV (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  blk_simp
  rw [after0_6]
  idx_vars y
  unfold outsAt0
  dsimp only
  rw [out6]
  simp only [blkFull, blk0, blk1, blk2]
  exact congrArg₂ (outV _ _ _) (Fin.ext (by blk_simp [index6, row])) (Fin.ext (by blk_simp [index6]))

theorem final7 (c : Dev nD) : (dats m 0 c).arrAt 7 cfg0.N = fun i : S5120x1024.Idx =>
    gate (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 7 _ (by decide +kernel) fun t hf y => ?_
  blk_simp
  rw [after0_7]
  idx_vars y
  unfold outsAt0
  dsimp only
  rw [out7]
  simp only [blkFull, blk0, blk1, blk2, blk3, blk4]
  exact congrArg₂ (gate _ _ _ _ _) (Fin.ext (by blk_simp [index7, row])) (Fin.ext (by blk_simp [index7]))

end Cert.Kernel10Ideal.Own

namespace Cert.Reference10Ideal.Own

open Cert.Reference10Ideal Cert.Reference10Ideal.Gen
open Idealize.ShloMosaic Idealize.ShloMosaic.TcCoe Idealize.SL.Sem
open Cert.Kernel10Ideal.Own (U W B W2 B2 full colA colV colL outA outV logits gate)
open scoped BigOperators

theorem full_eq (u : U) (w : W) (b : B) : addf (Host.dotGeneral (F := Ideal) dot_S5120x1024_S1024x2176_S5120x2176_1_0_0_1_n_n none (extf .f32 u bitsLt_bf16_f32) (extf .f32 w bitsLt_bf16_f32)) (broadcastInDim S5120x2176 ![0, 1] bcast_S1x2176_S5120x2176_0_1 (broadcastInDim S1x2176 ![1] bcast_S2176_S1x2176_1 (shapeCast S2176 b shapeCasts_S1x2176_S2176)))
    = fun i : S5120x2176.Idx => full u w b (i 0) (i 1) := by
  funext i
  idx_vars i
  pointwise [dot_S5120x1024_S1024x2176_S5120x2176_1_0_0_1_n_n, full]

theorem outA_eq (u : U) (w : W) (b : B) (x : Vec Ideal S5120x2176 .f32) (hx : x = fun i : S5120x2176.Idx => full u w b (i 0) (i 1)) :
    concatenate S5120x1152 1 [⟨S5120x512, extractStridedSlice S5120x512 ![0, 0] x slices_S5120x2176_S5120x512_0_0⟩, ⟨S5120x512, extractStridedSlice S5120x512 ![0, 512] x slices_S5120x2176_S5120x512_0_512⟩, ⟨S5120x128, extractStridedSlice S5120x128 ![0, 2048] x slices_S5120x2176_S5120x128_0_2048⟩] concatenates_S5120x512_S5120x512_S5120x128_S5120x1152_d1
    = fun i : S5120x1152.Idx => outA u w b (i 0) (i 1) := by
  subst hx
  funext i
  idx_vars i
  pointwise [outA, colA]
  split_ifs <;> exact congrArg (full u w b i0) (Fin.ext (by dsimp only; split_ifs <;> omega))

theorem outV_eq (u : U) (w : W) (b : B) (x : Vec Ideal S5120x2176 .f32) (hx : x = fun i : S5120x2176.Idx => full u w b (i 0) (i 1)) :
    truncf (F := Ideal) .bf16 (extractStridedSlice S5120x1024 ![0, 1024] x slices_S5120x2176_S5120x1024_0_1024) bitsLt_bf16_f32
    = fun i : S5120x1024.Idx => outV u w b (i 0) (i 1) := by
  subst hx
  funext i
  idx_vars i
  pointwise [outV, colV]

theorem logits_eq (u : U) (w : W) (b : B) (w2 : W2) (b2 : B2) (x : Vec Ideal S5120x2176 .f32) (hx : x = fun i : S5120x2176.Idx => full u w b (i 0) (i 1)) :
    addf (Host.dotGeneral (F := Ideal) (φ₁ := .f32) (φ₂ := .f32) dot_S5120x128_S128x1024_S5120x1024_1_0_0_1_n_n none (extractStridedSlice S5120x128 ![0, 2048] x slices_S5120x2176_S5120x128_0_2048) w2) (broadcastInDim S5120x1024 ![0, 1] bcast_S1x1024_S5120x1024_0_1 (broadcastInDim S1x1024 ![1] bcast_S1024_S1x1024_1 (shapeCast S1024 b2 shapeCasts_S1x1024_S1024)))
    = fun i : S5120x1024.Idx => logits u w b w2 b2 (i 0) (i 1) := by
  subst hx
  funext i
  idx_vars i
  pointwise [dot_S5120x128_S128x1024_S5120x1024_1_0_0_1_n_n, logits, colL]

/-- The log of the gates, over the temperature, as the reference prints it. -/
theorem gate_eq (u : U) (w : W) (b : B) (w2 : W2) (b2 : B2) (x : FVec Ideal S5120x1024 .f32)
    (hx : x = fun i : S5120x1024.Idx => logits u w b w2 b2 (i 0) (i 1)) :
    Host.divf (F := Ideal) (Host.negf (select (cmpf .une (subf (Host.negf x) (broadcastInDim S5120x1024 ![] bcast_S_S5120x1024 (constant S_ .f32 0x00000000#32))) (subf (Host.negf x) (broadcastInDim S5120x1024 ![] bcast_S_S5120x1024 (constant S_ .f32 0x00000000#32)))) (addf (Host.negf x) (broadcastInDim S5120x1024 ![] bcast_S_S5120x1024 (constant S_ .f32 0x00000000#32))) (addf (maximumf (Host.negf x) (broadcastInDim S5120x1024 ![] bcast_S_S5120x1024 (constant S_ .f32 0x00000000#32))) (Host.log1p (Host.exp (Host.negf (Host.absf (subf (Host.negf x) (broadcastInDim S5120x1024 ![] bcast_S_S5120x1024 (constant S_ .f32 0x00000000#32)))))))))) (broadcastInDim S5120x1024 ![] bcast_S_S5120x1024 (constant S_ .f32 0x41800000#32))
    = fun i : S5120x1024.Idx => gate u w b w2 b2 (i 0) (i 1) := by
  subst hx
  funext i
  idx_vars i
  pointwise [gate, Gate.absf_eq, Gate.ofBits_16]
  rw [if_neg (not_not_intro rfl), Gate.div_16]
  exact congrArg (· * ((1 / 16 : ℝ) : EReal)) (Gate.neg_softplus _)

end Cert.Reference10Ideal.Own

namespace Cert.Proof

open Idealize.ShloMosaic Idealize.SL.Sem

/-- The kernel's results are the reference's projections and gates. -/
theorem algebraic10 : Cert.algebraic_Kernel10Ideal_Reference10Ideal := by
  intro m ρ m' ρ' _ hagree
  refine ⟨_, _, _, (θ_run Cert.Kernel10Ideal.defs _ _).mono (fun _ h c => ⟨(h c).1.trans (Cert.Kernel10Ideal.Own.final5 m c),
    (h c).2.1.trans (Cert.Kernel10Ideal.Own.final6 m c), (h c).2.2.1.trans (Cert.Kernel10Ideal.Own.final7 m c),
    (h c).2.2.2⟩) (Cert.Kernel10Ideal.Value.run_blocks (F := Ideal) m ρ), ?_⟩
  refine (θ_run Cert.Reference10Ideal.defs _ _).mono (fun _ h c => ⟨(h c).1.trans ?_, (h c).2.1.trans ?_, (h c).2.2.1.trans ?_, (h c).2.2.2⟩)
    (Cert.Reference10Ideal.Value.run (F := Ideal) m' ρ')
  · rw [(hagree c).1, (hagree c).2.1, (hagree c).2.2.1]; exact Cert.Reference10Ideal.Own.outA_eq _ _ _ _ (Cert.Reference10Ideal.Own.full_eq _ _ _)
  · rw [(hagree c).1, (hagree c).2.1, (hagree c).2.2.1]; exact Cert.Reference10Ideal.Own.outV_eq _ _ _ _ (Cert.Reference10Ideal.Own.full_eq _ _ _)
  · unfold Cert.Reference10Ideal.Value.res_main_v20
    rw [(hagree c).1, (hagree c).2.1, (hagree c).2.2.1, (hagree c).2.2.2.1, (hagree c).2.2.2.2]
    exact Cert.Reference10Ideal.Own.gate_eq _ _ _ _ _ _ (Cert.Reference10Ideal.Own.logits_eq _ _ _ _ _ _ (Cert.Reference10Ideal.Own.full_eq _ _ _))

end Cert.Proof

end
-- ==== Proof.Product11.lean ====
/-
  The gradients of the gate: of the decay's low-rank columns, and of the weight and the bias that take them to the gate. The
  gradients of the queries, keys and values of the two directions are added, and the rows of padding have none. Twenty grid
  points of 256 rows each add their part to the weight's gradient and to the bias's.
-/
module

public import proofs.«01_k».proof.Proof.Gen.Kernel11Ideal
public import proofs.«01_k».proof.Proof.Gen.Kernel11Ideal.Value
public import proofs.«01_k».proof.Proof.Gen.Reference11Ideal.Run
public import proofs.«01_k».proof.Proof.Gate
public import proofs.«01_k».proof.Defs
public import Idealize.ShloMosaic.Lib.Pipeline.ValueKit

@[expose] public section

set_option maxRecDepth 16384

noncomputable section

namespace Cert.Kernel11Ideal.Own

open Cert.Kernel11Ideal Cert.Kernel11Ideal.Gen Cert.Kernel11Ideal.Value
open Idealize.ShloMosaic Idealize.ShloMosaic.TcCoe Idealize.SL.Sem
open scoped BigOperators

/-! ## The gradients -/

/-- The saved projection, of which the last 128 columns are the decay's; and the weight and the bias of its second product. -/
abbrev PB := Vec Ideal S5120x1152 .f32
abbrev UP := Vec Ideal S128x1024 .f32
abbrev BI := Vec Ideal S1x1024 .f32

/-- A direction's gradient of the log of the gate, and of the queries or keys, and of the values. -/
abbrev DG := Vec Ideal S5120x512 .f32
abbrev DQ := Vec Ideal S5120x512 .bf16
abbrev DV := Vec Ideal S5120x1024 .bf16

/-- A row that is not padding. -/
def alive (r : Fin 5120) : Prop := r.val % 2560 < 2304

instance (r : Fin 5120) : Decidable (alive r) := inferInstanceAs (Decidable (_ < _))

/-- What a row has that is not padding, and zero on padding. -/
def masked (r : Fin 5120) (x : EReal) : EReal := if alive r then x else 0

def colL (k : Fin 128) : Fin 1152 := ⟨1024 + k.val, by omega⟩

/-- Two halves of 512 columns side by side; -/
def halves (A B : Fin 512 → EReal) (q : Fin 1024) : EReal := if h : q.val < 512 then A ⟨q.val, h⟩ else B ⟨q.val - 512, by omega⟩

/-- and queries, keys, values and the decay's columns. -/
def cols (A B : Fin 512 → EReal) (C : Fin 1024 → EReal) (D : Fin 128 → EReal) (q : Fin 2176) : EReal :=
  if h : q.val < 512 then A ⟨q.val, h⟩ else if h : q.val < 1024 then B ⟨q.val - 512, by omega⟩
  else if h : q.val < 2048 then C ⟨q.val - 1024, by omega⟩ else D ⟨q.val - 2048, by omega⟩

section
variable {A B : Fin 512 → EReal} {C : Fin 1024 → EReal} {D : Fin 128 → EReal} {q : Fin 2176}

theorem cols_Q {j : Fin 512} (h : q.val = j.val) : cols A B C D q = A j := by
  unfold cols
  rw [dif_pos (by omega)]
  exact congrArg A (Fin.ext (by omega))

theorem cols_K {j : Fin 512} (h : q.val = 512 + j.val) : cols A B C D q = B j := by
  unfold cols
  rw [dif_neg (by omega), dif_pos (by omega)]
  exact congrArg B (Fin.ext (by dsimp only; omega))

theorem cols_V {j : Fin 1024} (h : q.val = 1024 + j.val) : cols A B C D q = C j := by
  unfold cols
  rw [dif_neg (by omega), dif_neg (by omega), dif_pos (by omega)]
  exact congrArg C (Fin.ext (by dsimp only; omega))

theorem cols_L {j : Fin 128} (h : q.val = 2048 + j.val) : cols A B C D q = D j := by
  unfold cols
  rw [dif_neg (by omega), dif_neg (by omega), dif_neg (by omega)]
  exact congrArg D (Fin.ext (by dsimp only; omega))

end

/-- The gates before the sigmoid. -/
def logits (pb : PB) (up : UP) (b : BI) (r : Fin 5120) (q : Fin 1024) : EReal :=
  ∑ k : Fin 128, pb (ix2 r (colL k)) * up (ix2 k q) + b (ix2 0 q)

/-- The gradient of the gates before the sigmoid; -/
def dlog (pb : PB) (up : UP) (b : BI) (gf gb : DG) (r : Fin 5120) (q : Fin 1024) : EReal :=
  masked r (halves (fun j => gf (ix2 r j)) (fun j => gb (ix2 r j)) q) * ((1 / 16 : ℝ) : EReal)
    * Gate.sigmoid (-logits pb up b r q)

/-- of the decay's columns; -/
def dlr (pb : PB) (up : UP) (b : BI) (gf gb : DG) (r : Fin 5120) (k : Fin 128) : EReal :=
  ∑ q : Fin 1024, dlog pb up b gf gb r q * up (ix2 k q)

/-- of the weight; -/
def dup (pb : PB) (up : UP) (b : BI) (gf gb : DG) (k : Fin 128) (q : Fin 1024) : EReal :=
  ∑ r : Fin 5120, pb (ix2 r (colL k)) * dlog pb up b gf gb r q

/-- and of the bias. -/
def dbias (pb : PB) (up : UP) (b : BI) (gf gb : DG) (q : Fin 1024) : EReal := ∑ r : Fin 5120, dlog pb up b gf gb r q

/-- All the columns. -/
def dp (pb : PB) (up : UP) (b : BI) (qf kf : DQ) (vf : DV) (gf : DG) (qb kb : DQ) (vb : DV) (gb : DG) (r : Fin 5120) (q : Fin 2176) : EReal :=
  cols (fun j => masked r (qf (ix2 r j) + qb (ix2 r j))) (fun j => masked r (kf (ix2 r j) + kb (ix2 r j)))
    (fun j => masked r (vf (ix2 r j) + vb (ix2 r j))) (dlr pb up b gf gb r) q

variable (m : (ℓ : Loc nD τ sig) → Buf (Elt Ideal) ℓ)

/-! ## The blocks -/

/-- Row `p` of block `j`. -/
def rowN (j : ℕ) (p : Fin 256) : Fin 5120 := ⟨(j * 256 + p.val) % 5120, Nat.mod_lt _ (by norm_num)⟩
def row (t : Fin cfg0.N) (p : Fin 256) : Fin 5120 :=
  ⟨t.val * 256 + p.val, by have : t.val < 20 := lt_of_lt_of_eq t.isLt N_0; omega⟩

theorem row_eq (t : Fin cfg0.N) (p : Fin 256) : row t p = rowN t.val p := by
  have : t.val < 20 := lt_of_lt_of_eq t.isLt N_0
  exact Fin.ext (by dsimp only [row, rowN]; omega)

theorem index0 : ∀ t : Fin cfg0.N, win0_0.index t = ![t.val, 8] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![t.val, 0] := by decide +kernel
theorem index10 : ∀ t : Fin cfg0.N, win0_10.index t = ![t.val, 0] := by decide +kernel
theorem index11 : ∀ t : Fin cfg0.N, win0_11.index t = ![t.val, 0] := by decide +kernel
theorem index12 : ∀ t : Fin cfg0.N, win0_12.index t = ![0, 0] := by decide +kernel
theorem index13 : ∀ t : Fin cfg0.N, win0_13.index t = ![0, 0] := by decide +kernel

theorem blk0 (c : Dev nD) (t : Fin cfg0.N) (p : Fin 256) (k : Fin 128) :
    iblk m c 0 t (ix2 p k) = m ((c : Thread nD τ).loc main_arg0) (ix2 (row t p) (colL k)) := by
  have hN : t.val < 20 := lt_of_lt_of_eq t.isLt N_0
  blk_simp [iblk]
  exact congrArg _ (by blk_ext [index0, row, colL])

theorem blk1 (c : Dev nD) (t : Fin cfg0.N) (k : Fin 128) (q : Fin 1024) :
    iblk m c 1 t (ix2 k q) = m ((c : Thread nD τ).loc main_arg1) (ix2 k q) := by
  blk_simp [iblk]
  exact congrArg _ (by blk_ext [index1])

theorem blk2 (c : Dev nD) (t : Fin cfg0.N) (z : Fin 1) (q : Fin 1024) :
    iblk m c 2 t (ix2 z q) = m ((c : Thread nD τ).loc main_arg2) (ix2 0 q) := by
  blk_simp [iblk]
  exact congrArg _ (by blk_ext [index2])

theorem blk3 (c : Dev nD) (t : Fin cfg0.N) (p : Fin 256) (q : Fin 512) :
    iblk m c 3 t (ix2 p q) = m ((c : Thread nD τ).loc main_arg3) (ix2 (row t p) q) := by
  have hN : t.val < 20 := lt_of_lt_of_eq t.isLt N_0
  blk_simp [iblk]
  exact congrArg _ (by blk_ext [index3, row])

theorem blk4 (c : Dev nD) (t : Fin cfg0.N) (p : Fin 256) (q : Fin 512) :
    iblk m c 4 t (ix2 p q) = m ((c : Thread nD τ).loc main_arg4) (ix2 (row t p) q) := by
  have hN : t.val < 20 := lt_of_lt_of_eq t.isLt N_0
  blk_simp [iblk]
  exact congrArg _ (by blk_ext [index4, row])

theorem blk5 (c : Dev nD) (t : Fin cfg0.N) (p : Fin 256) (q : Fin 1024) :
    iblk m c 5 t (ix2 p q) = m ((c : Thread nD τ).loc main_arg5) (ix2 (row t p) q) := by
  have hN : t.val < 20 := lt_of_lt_of_eq t.isLt N_0
  blk_simp [iblk]
  exact congrArg _ (by blk_ext [index5, row])

theorem blk6 (c : Dev nD) (t : Fin cfg0.N) (p : Fin 256) (q : Fin 512) :
    iblk m c 6 t (ix2 p q) = m ((c : Thread nD τ).loc main_arg6) (ix2 (row t p) q) := by
  have hN : t.val < 20 := lt_of_lt_of_eq t.isLt N_0
  blk_simp [iblk]
  exact congrArg _ (by blk_ext [index6, row])

theorem blk7 (c : Dev nD) (t : Fin cfg0.N) (p : Fin 256) (q : Fin 512) :
    iblk m c 7 t (ix2 p q) = m ((c : Thread nD τ).loc main_arg7) (ix2 (row t p) q) := by
  have hN : t.val < 20 := lt_of_lt_of_eq t.isLt N_0
  blk_simp [iblk]
  exact congrArg _ (by blk_ext [index7, row])

theorem blk8 (c : Dev nD) (t : Fin cfg0.N) (p : Fin 256) (q : Fin 512) :
    iblk m c 8 t (ix2 p q) = m ((c : Thread nD τ).loc main_arg8) (ix2 (row t p) q) := by
  have hN : t.val < 20 := lt_of_lt_of_eq t.isLt N_0
  blk_simp [iblk]
  exact congrArg _ (by blk_ext [index8, row])

theorem blk9 (c : Dev nD) (t : Fin cfg0.N) (p : Fin 256) (q : Fin 1024) :
    iblk m c 9 t (ix2 p q) = m ((c : Thread nD τ).loc main_arg9) (ix2 (row t p) q) := by
  have hN : t.val < 20 := lt_of_lt_of_eq t.isLt N_0
  blk_simp [iblk]
  exact congrArg _ (by blk_ext [index9, row])

theorem blk10 (c : Dev nD) (t : Fin cfg0.N) (p : Fin 256) (q : Fin 512) :
    iblk m c 10 t (ix2 p q) = m ((c : Thread nD τ).loc main_arg10) (ix2 (row t p) q) := by
  have hN : t.val < 20 := lt_of_lt_of_eq t.isLt N_0
  blk_simp [iblk]
  exact congrArg _ (by blk_ext [index10, row])

/-! ## The body at a block -/

/-- The bit that a block is padding. -/
def pad (i : grid0.Coords) : BitVec 1 :=
  let v1 : BitVec 32 := Scalar.select (Scalar.cmpi .eq 10#32 0#32) 1#32 10#32
  let v2 : BitVec 32 := Scalar.remsi (BitVec.ofNat 32 (i 0).val) v1
  Scalar.cmpi .sge (Scalar.select (Scalar.andi (Scalar.xori (Scalar.cmpi .slt v2 0#32) (Scalar.cmpi .slt v1 0#32)) (Scalar.cmpi .ne v2 0#32))
    (Scalar.addi v2 v1) v2) 9#32

theorem pad_eq : ∀ t : Fin cfg0.N, pad (grid0.coords t) = if t.val % 10 < 9 then 0#1 else 1#1 := by decide +kernel

theorem select_pad (t : Fin cfg0.N) (p : Fin 256) (x : EReal) :
    Scalar.select (pad (grid0.coords t)) 0 x = masked (row t p) x := by
  have hN : t.val < 20 := lt_of_lt_of_eq t.isLt N_0
  rw [pad_eq]
  unfold masked
  by_cases h : t.val % 10 < 9
  · rw [if_pos h, if_pos (by dsimp only [alive, row]; omega)]; rfl
  · rw [if_neg h, if_neg (by dsimp only [alive, row]; omega)]; rfl

section
variable (i : grid0.Coords) (x0 : Vec Ideal S256x128 .f32) (x1 : UP) (x2 : BI) (x3 x4 : Vec Ideal S256x512 .bf16)
  (x5 : Vec Ideal S256x1024 .bf16) (x6 : Vec Ideal S256x512 .f32) (x7 x8 : Vec Ideal S256x512 .bf16) (x9 : Vec Ideal S256x1024 .bf16)
  (x10 : Vec Ideal S256x512 .f32)

/-- The gradient of the gates at the block; -/
def blkDlog (p : Fin 256) (q : Fin 1024) : EReal :=
  Scalar.select (pad i) 0 (halves (fun j => x6 (ix2 p j)) (fun j => x10 (ix2 p j)) q) * ((1 / 16 : ℝ) : EReal)
    * Gate.sigmoid (-(∑ k : Fin 128, x0 (ix2 p k) * x1 (ix2 k q) + x2 (ix2 0 q)))

/-- the block's part of the weight's gradient, and of the bias's; -/
def blkDup (k : Fin 128) (q : Fin 1024) : EReal := ∑ p : Fin 256, x0 (ix2 p k) * blkDlog i x0 x1 x2 x6 x10 p q
def blkDbias (q : Fin 1024) : EReal := ∑ p : Fin 256, blkDlog i x0 x1 x2 x6 x10 p q

/-- and all the columns. -/
def blkDp (p : Fin 256) (q : Fin 2176) : EReal :=
  cols (fun j => Scalar.select (pad i) 0 (x3 (ix2 p j) + x7 (ix2 p j))) (fun j => Scalar.select (pad i) 0 (x4 (ix2 p j) + x8 (ix2 p j)))
    (fun j => Scalar.select (pad i) 0 (x5 (ix2 p j) + x9 (ix2 p j)))
    (fun k => ∑ q : Fin 1024, blkDlog i x0 x1 x2 x6 x10 p q * x1 (ix2 k q)) q

theorem pay8_eq : k0_pay8 (F := Ideal) (k0_pay6 i x6 x10) (k0_pay7 x0 x1 x2)
    = fun j : S256x1024.Idx => blkDlog i x0 x1 x2 x6 x10 (j 0) (j 1) := by
  funext j
  idx_vars j
  show _ = blkDlog i x0 x1 x2 x6 x10 _ _
  unfold blkDlog pad halves Gate.sigmoid
  pointwise [k0_pay8, k0_pay6, k0_pay7, dot_S256x128_S128x1024_S256x1024_1_0_0_1_n_n, Gate.ofBits_half, Gate.ofBits_inv16]
  rw [zero_sub]

theorem pay9_eq (s : UP) (k : Fin 128) (q : Fin 1024) : k0_pay9 (F := Ideal) x0 (k0_pay6 i x6 x10) (k0_pay7 x0 x1 x2) s (ix2 k q)
    = s (ix2 k q) + ∑ p : Fin 256, x0 (ix2 p k) * blkDlog i x0 x1 x2 x6 x10 p q := by
  unfold k0_pay9
  rw [pay8_eq]
  pointwise [dot_S256x128_S256x1024_S128x1024_0_0_1_1_n_n]

theorem pay10_eq (s : BI) (z : Fin 1) (q : Fin 1024) : k0_pay10 (F := Ideal) (k0_pay6 i x6 x10) (k0_pay7 x0 x1 x2) s (ix2 z q)
    = s (ix2 z q) + ∑ p : Fin 256, blkDlog i x0 x1 x2 x6 x10 p q := by
  unfold k0_pay10
  rw [pay8_eq]
  pointwise

theorem pay3_eq (p : Fin 256) (k : Fin 128) : k0_pay3 (F := Ideal) x1 (k0_pay8 (k0_pay6 i x6 x10) (k0_pay7 x0 x1 x2)) (ix2 p k)
    = ∑ q : Fin 1024, blkDlog i x0 x1 x2 x6 x10 p q * x1 (ix2 k q) := by
  unfold k0_pay3
  rw [pay8_eq]
  pointwise [dot_S256x1024_S128x1024_S256x128_1_1_0_0_n_n]

end

section
variable (c : Dev nD) (i : grid0.Coords)
  (a0 : Memref sig .tc .vmem S256x128 .f32) (h0 : a0.IsWhole)
  (a1 : Memref sig .tc .vmem S128x1024 .f32) (h1 : a1.IsWhole)
  (a2 : Memref sig .tc .vmem S1x1024 .f32) (h2 : a2.IsWhole)
  (a3 : Memref sig .tc .vmem S256x512 .bf16) (h3 : a3.IsWhole)
  (a4 : Memref sig .tc .vmem S256x512 .bf16) (h4 : a4.IsWhole)
  (a5 : Memref sig .tc .vmem S256x1024 .bf16) (h5 : a5.IsWhole)
  (a6 : Memref sig .tc .vmem S256x512 .f32) (h6 : a6.IsWhole)
  (a7 : Memref sig .tc .vmem S256x512 .bf16) (h7 : a7.IsWhole)
  (a8 : Memref sig .tc .vmem S256x512 .bf16) (h8 : a8.IsWhole)
  (a9 : Memref sig .tc .vmem S256x1024 .bf16) (h9 : a9.IsWhole)
  (a10 : Memref sig .tc .vmem S256x512 .f32) (h10 : a10.IsWhole)
  (a11 : Memref sig .tc .vmem S256x2176 .bf16) (h11 : a11.IsWhole)
  (a12 : Memref sig .tc .vmem S128x1024 .f32) (h12 : a12.IsWhole)
  (a13 : Memref sig .tc .vmem S1x1024 .f32) (h13 : a13.IsWhole)
  (x0 : Vec Ideal S256x128 .f32)
  (x1 : Vec Ideal S128x1024 .f32)
  (x2 : Vec Ideal S1x1024 .f32)
  (x3 : Vec Ideal S256x512 .bf16)
  (x4 : Vec Ideal S256x512 .bf16)
  (x5 : Vec Ideal S256x1024 .bf16)
  (x6 : Vec Ideal S256x512 .f32)
  (x7 : Vec Ideal S256x512 .bf16)
  (x8 : Vec Ideal S256x512 .bf16)
  (x9 : Vec Ideal S256x1024 .bf16)
  (x10 : Vec Ideal S256x512 .f32)

theorem firstP (c0 : cond0_0 i) (p : Fin 256) (q : Fin 2176) : out0_A_11 c i a0 h0 a1 h1 a2 h2 a3 h3 a4 h4 a5 h5 a6 h6 a7 h7 a8 h8 a9 h9 a10 h10 a11 h11 a12 h12 a13 h13 c0 x0 x1 x2 x3 x4 x5 x6 x7 x8 x9 x10 (ix2 p q)
      = blkDp i x0 x1 x2 x3 x4 x5 x6 x7 x8 x9 x10 p q := by
  unfold out0_A_11 kernelRun0_A
  dsimp only
  frame_out
  canon_tiles y e using View.cover_of_tiledBy _ ![256, 128] (by sl_kernel_rfl) _
  · idx_vars y
    obtain rfl : p = y0 := Fin.ext e0
    refine Eq.trans ?_ (cols_L e1).symm
    rw [pay3_eq]
  · idx_vars y
    obtain rfl : p = y0 := Fin.ext e0
    refine Eq.trans ?_ (cols_V e1).symm
    pointwise [k0_pay2]
    rfl
  · idx_vars y
    obtain rfl : p = y0 := Fin.ext e0
    refine Eq.trans ?_ (cols_K e1).symm
    pointwise [k0_pay1, k0_pay12, k0_pay13]
    rfl
  · idx_vars y
    obtain rfl : p = y0 := Fin.ext e0
    refine Eq.trans ?_ (cols_Q e1).symm
    pointwise [k0_pay11]
    rfl

theorem nextP (c0 : ¬cond0_0 i) (xw : UP) (xb : BI) (p : Fin 256) (q : Fin 2176) : out0_B_11 c i a0 h0 a1 h1 a2 h2 a3 h3 a4 h4 a5 h5 a6 h6 a7 h7 a8 h8 a9 h9 a10 h10 a11 h11 a12 h12 a13 h13 c0 x0 x1 x2 x3 x4 x5 x6 x7 x8 x9 x10 xw xb (ix2 p q)
      = blkDp i x0 x1 x2 x3 x4 x5 x6 x7 x8 x9 x10 p q := by
  unfold out0_B_11 kernelRun0_B
  dsimp only
  frame_out
  canon_tiles y e using View.cover_of_tiledBy _ ![256, 128] (by sl_kernel_rfl) _
  · idx_vars y
    obtain rfl : p = y0 := Fin.ext e0
    refine Eq.trans ?_ (cols_L e1).symm
    rw [pay3_eq]
  · idx_vars y
    obtain rfl : p = y0 := Fin.ext e0
    refine Eq.trans ?_ (cols_V e1).symm
    pointwise [k0_pay2]
    rfl
  · idx_vars y
    obtain rfl : p = y0 := Fin.ext e0
    refine Eq.trans ?_ (cols_K e1).symm
    pointwise [k0_pay1, k0_pay12, k0_pay13]
    rfl
  · idx_vars y
    obtain rfl : p = y0 := Fin.ext e0
    refine Eq.trans ?_ (cols_Q e1).symm
    pointwise [k0_pay11]
    rfl

theorem firstW (c0 : cond0_0 i) (k : Fin 128) (q : Fin 1024) : out0_A_12 c i a0 h0 a1 h1 a2 h2 a3 h3 a4 h4 a5 h5 a6 h6 a7 h7 a8 h8 a9 h9 a10 h10 a11 h11 a12 h12 a13 h13 c0 x0 x1 x2 x3 x4 x5 x6 x7 x8 x9 x10 (ix2 k q)
      = blkDup i x0 x1 x2 x6 x10 k q := by
  unfold blkDup out0_A_12 kernelRun0_A
  dsimp only
  frame_out
  rw [pay9_eq]
  pointwise [k0_pay4]

theorem firstB (c0 : cond0_0 i) (z : Fin 1) (q : Fin 1024) : out0_A_13 c i a0 h0 a1 h1 a2 h2 a3 h3 a4 h4 a5 h5 a6 h6 a7 h7 a8 h8 a9 h9 a10 h10 a11 h11 a12 h12 a13 h13 c0 x0 x1 x2 x3 x4 x5 x6 x7 x8 x9 x10 (ix2 z q)
      = blkDbias i x0 x1 x2 x6 x10 q := by
  unfold blkDbias out0_A_13 kernelRun0_A
  dsimp only
  frame_out
  rw [pay10_eq]
  pointwise [k0_pay5]

theorem nextW (c0 : ¬cond0_0 i) (xw : UP) (xb : BI) (k : Fin 128) (q : Fin 1024) : out0_B_12 c i a0 h0 a1 h1 a2 h2 a3 h3 a4 h4 a5 h5 a6 h6 a7 h7 a8 h8 a9 h9 a10 h10 a11 h11 a12 h12 a13 h13 c0 x0 x1 x2 x3 x4 x5 x6 x7 x8 x9 x10 xw xb (ix2 k q)
      = xw (ix2 k q) + blkDup i x0 x1 x2 x6 x10 k q := by
  unfold blkDup out0_B_12 kernelRun0_B
  dsimp only
  frame_out
  rw [pay9_eq]

theorem nextB (c0 : ¬cond0_0 i) (xw : UP) (xb : BI) (z : Fin 1) (q : Fin 1024) : out0_B_13 c i a0 h0 a1 h1 a2 h2 a3 h3 a4 h4 a5 h5 a6 h6 a7 h7 a8 h8 a9 h9 a10 h10 a11 h11 a12 h12 a13 h13 c0 x0 x1 x2 x3 x4 x5 x6 x7 x8 x9 x10 xw xb (ix2 z q)
      = xb (ix2 z q) + blkDbias i x0 x1 x2 x6 x10 q := by
  unfold blkDbias out0_B_13 kernelRun0_B
  dsimp only
  frame_out
  rw [pay10_eq]

end

/-! ## The whole arrays -/

section
variable (c : Dev nD)

abbrev arg0 : PB := m ((c : Thread nD τ).loc main_arg0)
abbrev arg1 : UP := m ((c : Thread nD τ).loc main_arg1)
abbrev arg2 : BI := m ((c : Thread nD τ).loc main_arg2)
abbrev arg3 : DQ := m ((c : Thread nD τ).loc main_arg3)
abbrev arg4 : DQ := m ((c : Thread nD τ).loc main_arg4)
abbrev arg5 : DV := m ((c : Thread nD τ).loc main_arg5)
abbrev arg6 : DG := m ((c : Thread nD τ).loc main_arg6)
abbrev arg7 : DQ := m ((c : Thread nD τ).loc main_arg7)
abbrev arg8 : DQ := m ((c : Thread nD τ).loc main_arg8)
abbrev arg9 : DV := m ((c : Thread nD τ).loc main_arg9)
abbrev arg10 : DG := m ((c : Thread nD τ).loc main_arg10)

theorem dlog_blk (t : Fin cfg0.N) (p : Fin 256) (q : Fin 1024) :
    blkDlog (grid0.coords t) (iblk m c 0 t) (iblk m c 1 t) (iblk m c 2 t) (iblk m c 6 t) (iblk m c 10 t) p q
      = dlog (arg0 m c) (arg1 m c) (arg2 m c) (arg6 m c) (arg10 m c) (rowN t.val p) q := by
  unfold blkDlog dlog logits
  rw [select_pad t p, ← row_eq]
  simp only [blk0, blk1, blk2, blk6, blk10]

theorem dp_blk (t : Fin cfg0.N) (p : Fin 256) (q : Fin 2176) :
    blkDp (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) p q
      = dp (arg0 m c) (arg1 m c) (arg2 m c) (arg3 m c) (arg4 m c) (arg5 m c) (arg6 m c) (arg7 m c) (arg8 m c) (arg9 m c) (arg10 m c) (row t p) q := by
  unfold blkDp dp dlr
  simp only [dlog_blk, select_pad t p, blk1, blk3, blk4, blk5, blk7, blk8, blk9, ← row_eq]

theorem final11 : (dats m 0 c).arrAt 11 cfg0.N = fun i : S5120x2176.Idx => dp (arg0 m c) (arg1 m c) (arg2 m c) (arg3 m c) (arg4 m c) (arg5 m c) (arg6 m c) (arg7 m c) (arg8 m c) (arg9 m c) (arg10 m c) (i 0) (i 1) := by
  refine (dats m 0 c).arrAt_eq_of_covers 11 _ (by decide +kernel) fun t hf y => ?_
  blk_simp
  rw [after0_11]
  idx_vars y
  have e : (outsAt0 m c t.val t.isLt).1 (ix2 y0 y1) = dp (arg0 m c) (arg1 m c) (arg2 m c) (arg3 m c) (arg4 m c) (arg5 m c) (arg6 m c) (arg7 m c) (arg8 m c) (arg9 m c) (arg10 m c) (row t y0) y1 := by
    rw [← dp_blk]
    by_cases h0 : t.val % 20 = 0
    · have e := outsAt0_A m c t h0
      rw [e]
      dsimp only
      rw [firstP]
    · have e := outsAt0_B m c t h0
      rw [e]
      dsimp only
      rw [nextP]
  refine Eq.trans e ?_
  exact congrArg₂ (dp (arg0 m c) (arg1 m c) (arg2 m c) (arg3 m c) (arg4 m c) (arg5 m c) (arg6 m c) (arg7 m c) (arg8 m c) (arg9 m c) (arg10 m c)) (Fin.ext (by blk_simp [index11, row])) (Fin.ext (by blk_simp [index11]))

/-- A block's part of the gradient of the weight, and of the bias. -/
def partW (k : Fin 128) (q : Fin 1024) (j : ℕ) : EReal :=
  ∑ p : Fin 256, arg0 m c (ix2 (rowN j p) (colL k)) * dlog (arg0 m c) (arg1 m c) (arg2 m c) (arg6 m c) (arg10 m c) (rowN j p) q
def partB (q : Fin 1024) (j : ℕ) : EReal := ∑ p : Fin 256, dlog (arg0 m c) (arg1 m c) (arg2 m c) (arg6 m c) (arg10 m c) (rowN j p) q

theorem partW_blk (t : Fin cfg0.N) (k : Fin 128) (q : Fin 1024) :
    blkDup (grid0.coords t) (iblk m c 0 t) (iblk m c 1 t) (iblk m c 2 t) (iblk m c 6 t) (iblk m c 10 t) k q = partW m c k q t.val := by
  unfold blkDup
  simp only [dlog_blk, blk0, row_eq]
  rfl

theorem partB_blk (t : Fin cfg0.N) (q : Fin 1024) :
    blkDbias (grid0.coords t) (iblk m c 0 t) (iblk m c 1 t) (iblk m c 2 t) (iblk m c 6 t) (iblk m c 10 t) q = partB m c q t.val := by
  unfold blkDbias
  simp only [dlog_blk]
  rfl

theorem sums (n : ℕ) (h : n < cfg0.N) :
    (∀ (k : Fin 128) (q : Fin 1024), (outsAt0 m c n h).2.1 (ix2 k q) = ∑ j ∈ Finset.range (n + 1), partW m c k q j)
      ∧ ∀ (z : Fin 1) (q : Fin 1024), (outsAt0 m c n h).2.2 (ix2 z q) = ∑ j ∈ Finset.range (n + 1), partB m c q j := by
  have hN : cfg0.N = 20 := N_0
  induction n with
  | zero =>
    have e := outsAt0_A m c ⟨0, h⟩ rfl
    dsimp only at e
    rw [e]
    dsimp only
    refine ⟨fun k q => ?_, fun z q => ?_⟩
    · rw [firstW, partW_blk, Finset.sum_range_one]
    · rw [firstB, partB_blk, Finset.sum_range_one]
  | succ n ih =>
    have hn : n < cfg0.N := by omega
    have e := outsAt0_B m c ⟨n + 1, h⟩ (by dsimp only; omega)
    dsimp only at e
    rw [e]
    dsimp only
    refine ⟨fun k q => ?_, fun z q => ?_⟩
    · rw [nextW, partW_blk, Finset.sum_range_succ _ (n + 1)]
      exact congrArg (· + _) ((ih hn).1 k q)
    · rw [nextB, partB_blk, Finset.sum_range_succ _ (n + 1)]
      exact congrArg (· + _) ((ih hn).2 z q)

theorem allW (k : Fin 128) (q : Fin 1024) : ∑ j ∈ Finset.range 20, partW m c k q j = dup (arg0 m c) (arg1 m c) (arg2 m c) (arg6 m c) (arg10 m c) k q := by
  unfold dup
  rw [Fin.sum_univ_tiles 20 256 rfl, ← Fin.sum_univ_eq_sum_range]
  refine Finset.sum_congr rfl fun j _ => Finset.sum_congr rfl fun p _ => ?_
  exact congrArg (fun r => arg0 m c (ix2 r (colL k)) * dlog (arg0 m c) (arg1 m c) (arg2 m c) (arg6 m c) (arg10 m c) r q) (Fin.ext (by dsimp only [rowN]; omega))

theorem allB (q : Fin 1024) : ∑ j ∈ Finset.range 20, partB m c q j = dbias (arg0 m c) (arg1 m c) (arg2 m c) (arg6 m c) (arg10 m c) q := by
  unfold dbias
  rw [Fin.sum_univ_tiles 20 256 rfl, ← Fin.sum_univ_eq_sum_range]
  refine Finset.sum_congr rfl fun j _ => Finset.sum_congr rfl fun p _ => ?_
  exact congrArg (fun r => dlog (arg0 m c) (arg1 m c) (arg2 m c) (arg6 m c) (arg10 m c) r q) (Fin.ext (by dsimp only [rowN]; omega))

theorem final12 : (dats m 0 c).arrAt 12 cfg0.N = fun i : S128x1024.Idx => dup (arg0 m c) (arg1 m c) (arg2 m c) (arg6 m c) (arg10 m c) (i 0) (i 1) := by
  refine (dats m 0 c).arrAt_eq_of_covers 12 _ (by decide +kernel) fun t hf y => ?_
  have ht : t.val % 20 = 19 := (flush0_12 t).mp hf
  have hN : t.val < 20 := lt_of_lt_of_eq t.isLt N_0
  have h19 : t.val + 1 = 20 := by omega
  blk_simp
  rw [after0_12]
  idx_vars y
  refine ((sums m c t.val t.isLt).1 y0 y1).trans ?_
  rw [h19, allW]
  exact congrArg₂ (dup (arg0 m c) (arg1 m c) (arg2 m c) (arg6 m c) (arg10 m c)) (Fin.ext (by blk_simp [index12])) (Fin.ext (by blk_simp [index12]))

theorem final13 : (dats m 0 c).arrAt 13 cfg0.N = fun i : S1x1024.Idx => dbias (arg0 m c) (arg1 m c) (arg2 m c) (arg6 m c) (arg10 m c) (i 1) := by
  refine (dats m 0 c).arrAt_eq_of_covers 13 _ (by decide +kernel) fun t hf y => ?_
  have ht : t.val % 20 = 19 := (flush0_13 t).mp hf
  have hN : t.val < 20 := lt_of_lt_of_eq t.isLt N_0
  have h19 : t.val + 1 = 20 := by omega
  blk_simp
  rw [after0_13]
  idx_vars y
  refine ((sums m c t.val t.isLt).2 y0 y1).trans ?_
  rw [h19, allB]
  exact congrArg (dbias (arg0 m c) (arg1 m c) (arg2 m c) (arg6 m c) (arg10 m c)) (Fin.ext (by blk_simp [index13]))

end

end Cert.Kernel11Ideal.Own

namespace Cert.Reference11Ideal.Own

open Cert.Reference11Ideal Cert.Reference11Ideal.Gen
open Idealize.ShloMosaic Idealize.ShloMosaic.TcCoe Idealize.SL.Sem
open Cert.Kernel11Ideal.Own (PB UP BI DG DQ DV masked alive halves cols cols_Q cols_K cols_V cols_L colL logits dlog dlr dup dbias dp)
open scoped BigOperators

theorem live : ∀ n : Fin 2560, IntOp.cmpi .slt (BitVec.ofNat 32 n.val) 2304#32 = if n.val < 2304 then 1#1 else 0#1 := by decide +kernel

theorem select_live (r : Fin 5120) (x : EReal) : Scalar.select (IntOp.cmpi .slt (BitVec.ofNat 32 (r.val % 2560)) 2304#32) x 0 = masked r x := by
  rw [live ⟨r.val % 2560, Nat.mod_lt _ (by norm_num)⟩]
  unfold masked
  by_cases h : r.val % 2560 < 2304
  · rw [if_pos h, if_pos (show alive r from h)]; rfl
  · rw [if_neg h, if_neg (show ¬alive r from h)]; rfl

/-- The rows that are not padding, as the reference prints them. -/
abbrev mask := (shapeCast S5120x1 (broadcastInDim S2x2560 ![1] bcast_S2560_S2x2560_1 (cmpi .slt (iotaInDim S2560 32 0) (broadcastInDim S2560 ![] bcast_S_S2560 (constantI S_ 32 2304#32)))) shapeCasts_S2x2560_S5120x1)

theorem masked_512 (x : FVec Ideal S5120x512 .f32) : (select (broadcastInDim S5120x512 ![0, 1] bcast_S5120x1_S5120x512_0_1 mask) (x) (broadcastInDim S5120x512 ![] bcast_S_S5120x512 (id (constant (F := Ideal) S_ .f32 0x00000000#32))))
    = fun i : S5120x512.Idx => masked (i 0) (x (ix2 (i 0) (i 1))) := by
  funext i
  idx_vars i
  pointwise [id_eq]
  exact select_live i0 _

theorem masked_1024 (x : FVec Ideal S5120x1024 .f32) : (select (broadcastInDim S5120x1024 ![0, 1] bcast_S5120x1_S5120x1024_0_1 mask) (x) (broadcastInDim S5120x1024 ![] bcast_S_S5120x1024 (id (constant (F := Ideal) S_ .f32 0x00000000#32))))
    = fun i : S5120x1024.Idx => masked (i 0) (x (ix2 (i 0) (i 1))) := by
  funext i
  idx_vars i
  pointwise [id_eq]
  exact select_live i0 _

theorem logits_eq (pb : PB) (up : UP) (b : BI) : addf (Host.dotGeneral (F := Ideal) (φ₁ := .f32) (φ₂ := .f32) dot_S5120x128_S128x1024_S5120x1024_1_0_0_1_n_n none (extractStridedSlice S5120x128 ![0, 1024] pb slices_S5120x1152_S5120x128_0_1024) up) (broadcastInDim S5120x1024 ![0, 1] bcast_S1x1024_S5120x1024_0_1 (broadcastInDim S1x1024 ![1] bcast_S1024_S1x1024_1 (shapeCast S1024 b shapeCasts_S1x1024_S1024)))
    = fun i : S5120x1024.Idx => logits pb up b (i 0) (i 1) := by
  funext i
  idx_vars i
  pointwise [dot_S5120x128_S128x1024_S5120x1024_1_0_0_1_n_n, logits, colL]

/-- The gradient of the log of the gates. -/
theorem gate_eq (gf gb : DG) : concatenate S5120x1024 1 [⟨S5120x512, (select (broadcastInDim S5120x512 ![0, 1] bcast_S5120x1_S5120x512_0_1 mask) (gf) (broadcastInDim S5120x512 ![] bcast_S_S5120x512 (id (constant (F := Ideal) S_ .f32 0x00000000#32))))⟩, ⟨S5120x512, (select (broadcastInDim S5120x512 ![0, 1] bcast_S5120x1_S5120x512_0_1 mask) (gb) (broadcastInDim S5120x512 ![] bcast_S_S5120x512 (id (constant (F := Ideal) S_ .f32 0x00000000#32))))⟩] concatenates_S5120x512_S5120x512_S5120x1024_d1
    = fun i : S5120x1024.Idx => masked (i 0) (halves (fun j => gf (ix2 (i 0) j)) (fun j => gb (ix2 (i 0) j)) (i 1)) := by
  rw [masked_512, masked_512]
  funext i
  idx_vars i
  pointwise [halves]
  split_ifs <;> rfl

/-- The gradient of the gates before the sigmoid, as the reference prints it. -/
theorem dlog_eq (pb : PB) (up : UP) (b : BI) (gf gb : DG) (x g : FVec Ideal S5120x1024 .f32)
    (hx : x = fun i : S5120x1024.Idx => logits pb up b (i 0) (i 1))
    (hg : g = fun i : S5120x1024.Idx => masked (i 0) (halves (fun j => gf (ix2 (i 0) j)) (fun j => gb (ix2 (i 0) j)) (i 1))) :
    Host.negf (mulf (Host.negf (Host.divf (F := Ideal) g (broadcastInDim S5120x1024 ![] bcast_S_S5120x1024 (constant S_ .f32 0x41800000#32)))) (Host.exp (subf (select (cmpf .oeq (Host.negf x) (broadcastInDim S5120x1024 ![] bcast_S_S5120x1024 (constant S_ .f32 0x7F800000#32))) (broadcastInDim S5120x1024 ![] bcast_S_S5120x1024 (constant S_ .f32 0x00000000#32)) (Host.negf x)) (select (cmpf .oeq (select (cmpf .une (subf (Host.negf x) (broadcastInDim S5120x1024 ![] bcast_S_S5120x1024 (constant S_ .f32 0x00000000#32))) (subf (Host.negf x) (broadcastInDim S5120x1024 ![] bcast_S_S5120x1024 (constant S_ .f32 0x00000000#32)))) (addf (Host.negf x) (broadcastInDim S5120x1024 ![] bcast_S_S5120x1024 (constant S_ .f32 0x00000000#32))) (addf (maximumf (Host.negf x) (broadcastInDim S5120x1024 ![] bcast_S_S5120x1024 (constant S_ .f32 0x00000000#32))) (Host.log1p (Host.exp (Host.negf (Host.absf (subf (Host.negf x) (broadcastInDim S5120x1024 ![] bcast_S_S5120x1024 (constant S_ .f32 0x00000000#32))))))))) (broadcastInDim S5120x1024 ![] bcast_S_S5120x1024 (constant S_ .f32 0x7F800000#32))) (broadcastInDim S5120x1024 ![] bcast_S_S5120x1024 (constant S_ .f32 0x00000000#32)) (select (cmpf .une (subf (Host.negf x) (broadcastInDim S5120x1024 ![] bcast_S_S5120x1024 (constant S_ .f32 0x00000000#32))) (subf (Host.negf x) (broadcastInDim S5120x1024 ![] bcast_S_S5120x1024 (constant S_ .f32 0x00000000#32)))) (addf (Host.negf x) (broadcastInDim S5120x1024 ![] bcast_S_S5120x1024 (constant S_ .f32 0x00000000#32))) (addf (maximumf (Host.negf x) (broadcastInDim S5120x1024 ![] bcast_S_S5120x1024 (constant S_ .f32 0x00000000#32))) (Host.log1p (Host.exp (Host.negf (Host.absf (subf (Host.negf x) (broadcastInDim S5120x1024 ![] bcast_S_S5120x1024 (constant S_ .f32 0x00000000#32)))))))))))))
    = fun i : S5120x1024.Idx => dlog pb up b gf gb (i 0) (i 1) := by
  subst hx hg
  funext i
  idx_vars i
  pointwise [dlog, Gate.absf_eq, Gate.ofBits_16]
  rw [if_neg (not_not_intro rfl), Gate.ofBits_inf, Gate.div_16, EReal.neg_mul, neg_neg]
  exact congrArg (_ * ·) (Gate.dsoftplus_eq _)

theorem dbias_eq (pb : PB) (up : UP) (b : BI) (gf gb : DG) (x : FVec Ideal S5120x1024 .f32)
    (hx : x = fun i : S5120x1024.Idx => dlog pb up b gf gb (i 0) (i 1)) :
    broadcastInDim S1x1024 ![1] bcast_S1024_S1x1024_1 (Host.reduceAdd (shapeCast S1x1024 (Host.reduceAdd x (constant S_ .f32 0x00000000#32) reducesTo_S5120x1024_S1024_d0 h_S_) shapeCasts_S1024_S1x1024) (constant S_ .f32 0x00000000#32) reducesTo_S1x1024_S1024_d0 h_S_)
    = fun i : S1x1024.Idx => dbias pb up b gf gb (i 1) := by
  subst hx
  funext i
  idx_vars i
  pointwise [dbias, Fin.sum_univ_one]

theorem dup_eq (pb : PB) (up : UP) (b : BI) (gf gb : DG) (x : FVec Ideal S5120x1024 .f32)
    (hx : x = fun i : S5120x1024.Idx => dlog pb up b gf gb (i 0) (i 1)) :
    transpose S128x1024 [1, 0] (Host.dotGeneral (F := Ideal) (φ₁ := .f32) (φ₂ := .f32) dot_S5120x1024_S5120x128_S1024x128_0_0_1_1_n_n none x (extractStridedSlice S5120x128 ![0, 1024] pb slices_S5120x1152_S5120x128_0_1024)) transposes_S1024x128_S128x1024_1_0
    = fun i : S128x1024.Idx => dup pb up b gf gb (i 0) (i 1) := by
  subst hx
  funext i
  idx_vars i
  pointwise [dot_S5120x1024_S5120x128_S1024x128_0_0_1_1_n_n, dup, colL]
  exact Finset.sum_congr rfl fun r _ => mul_comm _ _

theorem dp_eq (pb : PB) (up : UP) (b : BI) (qf kf : DQ) (vf : DV) (gf : DG) (qb kb : DQ) (vb : DV) (gb : DG) (x : FVec Ideal S5120x1024 .f32)
    (hx : x = fun i : S5120x1024.Idx => dlog pb up b gf gb (i 0) (i 1)) :
    truncf (F := Ideal) .bf16 (concatenate S5120x2176 1 [⟨S5120x512, (select (broadcastInDim S5120x512 ![0, 1] bcast_S5120x1_S5120x512_0_1 mask) (addf (extf .f32 qf bitsLt_bf16_f32) (extf .f32 qb bitsLt_bf16_f32)) (broadcastInDim S5120x512 ![] bcast_S_S5120x512 (id (constant (F := Ideal) S_ .f32 0x00000000#32))))⟩,
      ⟨S5120x512, (select (broadcastInDim S5120x512 ![0, 1] bcast_S5120x1_S5120x512_0_1 mask) (addf (extf .f32 kf bitsLt_bf16_f32) (extf .f32 kb bitsLt_bf16_f32)) (broadcastInDim S5120x512 ![] bcast_S_S5120x512 (id (constant (F := Ideal) S_ .f32 0x00000000#32))))⟩,
      ⟨S5120x1024, (select (broadcastInDim S5120x1024 ![0, 1] bcast_S5120x1_S5120x1024_0_1 mask) (addf (extf .f32 vf bitsLt_bf16_f32) (extf .f32 vb bitsLt_bf16_f32)) (broadcastInDim S5120x1024 ![] bcast_S_S5120x1024 (id (constant (F := Ideal) S_ .f32 0x00000000#32))))⟩,
      ⟨S5120x128, Host.dotGeneral (F := Ideal) (φ₁ := .f32) (φ₂ := .f32) dot_S5120x1024_S128x1024_S5120x128_1_1_0_0_n_n none x up⟩] concatenates_S5120x512_S5120x512_S5120x1024_S5120x128_S5120x2176_d1) bitsLt_bf16_f32
    = fun i : S5120x2176.Idx => dp pb up b qf kf vf gf qb kb vb gb (i 0) (i 1) := by
  subst hx
  rw [masked_512, masked_512, masked_1024]
  funext i
  idx_vars i
  pointwise [dp, dot_S5120x1024_S128x1024_S5120x128_1_1_0_0_n_n]
  split_ifs <;> first
    | (refine Eq.trans ?_ (cols_Q (j := ⟨i1.val, by omega⟩) rfl).symm; rfl)
    | (refine Eq.trans ?_ (cols_K (j := ⟨i1.val - 512, by omega⟩) (by dsimp only; omega)).symm; rfl)
    | (refine Eq.trans ?_ (cols_V (j := ⟨i1.val - 512 - 512, by omega⟩) (by dsimp only; omega)).symm; rfl)
    | (refine Eq.trans ?_ (cols_L (j := ⟨i1.val - 512 - 512 - 1024, by omega⟩) (by dsimp only; omega)).symm; rfl)

end Cert.Reference11Ideal.Own

namespace Cert.Proof

open Idealize.ShloMosaic Idealize.SL.Sem

/-- The kernel's results are the reference's gradients. -/
theorem algebraic11 : Cert.algebraic_Kernel11Ideal_Reference11Ideal := by
  intro m ρ m' ρ' _ hagree
  refine ⟨_, _, _, (θ_run Cert.Kernel11Ideal.defs _ _).mono (fun _ h c => ⟨(h c).1.trans (Cert.Kernel11Ideal.Own.final11 m c),
    (h c).2.1.trans (Cert.Kernel11Ideal.Own.final12 m c), (h c).2.2.1.trans (Cert.Kernel11Ideal.Own.final13 m c),
    (h c).2.2.2⟩) (Cert.Kernel11Ideal.Value.run_blocks (F := Ideal) m ρ), ?_⟩
  refine (θ_run Cert.Reference11Ideal.defs _ _).mono (fun _ h c => ⟨(h c).1.trans ?_, (h c).2.1.trans ?_, (h c).2.2.1.trans ?_, (h c).2.2.2⟩)
    (Cert.Reference11Ideal.Value.run (F := Ideal) m' ρ')
  all_goals
    obtain ⟨e0, e1, e2, e3, e4, e5, e6, e7, e8, e9, e10⟩ := hagree c
  · unfold Cert.Reference11Ideal.Value.res_main_v39
    rw [e0, e1, e2, e3, e4, e5, e6, e7, e8, e9, e10]
    exact Cert.Reference11Ideal.Own.dp_eq _ _ _ _ _ _ _ _ _ _ _ _
      (Cert.Reference11Ideal.Own.dlog_eq _ _ _ _ _ _ _ (Cert.Reference11Ideal.Own.logits_eq _ _ _) (Cert.Reference11Ideal.Own.gate_eq _ _))
  · unfold Cert.Reference11Ideal.Value.res_main_v24
    rw [e0, e1, e2, e6, e10]
    exact Cert.Reference11Ideal.Own.dup_eq _ _ _ _ _ _
      (Cert.Reference11Ideal.Own.dlog_eq _ _ _ _ _ _ _ (Cert.Reference11Ideal.Own.logits_eq _ _ _) (Cert.Reference11Ideal.Own.gate_eq _ _))
  · unfold Cert.Reference11Ideal.Value.res_main_v40
    rw [e0, e1, e2, e6, e10]
    exact Cert.Reference11Ideal.Own.dbias_eq _ _ _ _ _ _
      (Cert.Reference11Ideal.Own.dlog_eq _ _ _ _ _ _ _ (Cert.Reference11Ideal.Own.logits_eq _ _ _) (Cert.Reference11Ideal.Own.gate_eq _ _))

end Cert.Proof

end
-- ==== Proof.Product12.lean ====
/-
  The conditioning's gradient: the modulation's gradients gathered, the bias's, the embedding's through the matrix and `silu`,
  and the embedding through `silu`, which the matrix's gradient takes.
-/
module

public import proofs.«01_k».proof.Proof.Gen.Kernel12Ideal
public import proofs.«01_k».proof.Proof.Gen.Kernel12Ideal.Value
public import proofs.«01_k».proof.Proof.Gen.Reference12Ideal.Run
public import proofs.«01_k».proof.Proof.Gate
public import proofs.«01_k».proof.Defs
public import Idealize.ShloMosaic.Lib.Pipeline.ValueKit

@[expose] public section

set_option maxRecDepth 16384

noncomputable section

namespace Cert.Kernel12Ideal.Own

open Cert.Kernel12Ideal Cert.Kernel12Ideal.Gen Cert.Kernel12Ideal.Value
open Idealize.ShloMosaic Idealize.ShloMosaic.TcCoe Idealize.SL.Sem
open scoped BigOperators

/-- The embedding; the matrix, its columns cut over eight devices; the shift's and the scale's gradients; and the gate's. -/
abbrev C := Vec Ideal S8x1024 .f32
abbrev W := Vec Ideal S8x1024x384 .bf16
abbrev D := Vec Ideal S8x3072 .f32
abbrev S := Vec Ideal S16x1024 .f32

/-- The embedding through `silu`. -/
def act (c : C) (p : Fin 8) (k : Fin 1024) : EReal := c (ix2 p k) * Gate.sigmoid (c (ix2 p k))

/-- The modulation's gradient: the shift's and the scale's from one operand, the gate's from rows 8 to 16 of the other. -/
def dmod (d : D) (s : S) (p : Fin 8) (n : Fin 3072) : EReal :=
  if _h : n.val < 2048 then d (ix2 p n) else s (ix2 ⟨8 + p.val, by omega⟩ ⟨n.val - 2048, by omega⟩)

def dbias (d : D) (s : S) (n : Fin 3072) : EReal := ∑ p : Fin 8, dmod d s p n

/-- One device's columns of the product of the gradient with the matrix. -/
def part (w : W) (d : D) (s : S) (p : Fin 8) (k : Fin 1024) (j : Fin 8) : EReal :=
  ∑ n : Fin 384, dmod d s p ⟨j.val * 384 + n.val, by omega⟩ * w (ix3 j k n)

/-- The embedding's gradient. -/
def dcond (c : C) (w : W) (d : D) (s : S) (p : Fin 8) (k : Fin 1024) : EReal :=
  (∑ j : Fin 8, part w d s p k j) * Gate.slope (c (ix2 p k))

/-! ## What the body stores -/

theorem out4 (c : C) (w : W) (d : D) (s : S) : G4 (F := Ideal) c w d s = fun i : S8x1024.Idx => act c (i 0) (i 1) := by
  funext i
  idx_vars i
  pointwise [k0_pay3, k0_pay2, act, Gate.sigmoid, Gate.ofBits_half]

theorem pay4_eq (d : D) (s : S) : k0_pay4 (F := Ideal) (View.ld d r0_1) (View.ld s r0_2)
    = fun i : S8x3072.Idx => dmod d s (i 0) (i 1) := by
  funext i
  idx_vars i
  pointwise [k0_pay4, dmod]

theorem out5 (c : C) (w : W) (d : D) (s : S) : G5 (F := Ideal) c w d s = fun i : S8x3072.Idx => dmod d s (i 0) (i 1) := pay4_eq d s

theorem out6 (c : C) (w : W) (d : D) (s : S) : G6 (F := Ideal) c w d s = fun i : S1x3072.Idx => dbias d s (i 1) := by
  unfold G6 k0_pay5
  rw [pay4_eq]
  funext i
  idx_vars i
  pointwise [dbias]

theorem dact_eq (w : W) (d : D) (s : S) :
    k0_pay8 (F := Ideal) (k0_pay4 (View.ld d r0_1) (View.ld s r0_2)) (k0_pay6 (View.ld d r0_1) (View.ld s r0_2) (View.ld w r0_5) (View.ld w r0_6)) (k0_pay7 (View.ld d r0_1) (View.ld s r0_2)) (View.ld w r0_7) (View.ld w r0_8) (View.ld w r0_9) (View.ld w r0_10) (View.ld w r0_11) (View.ld w r0_12)
    = fun i : S8x1024.Idx => ∑ j : Fin 8, part w d s (i 0) (i 1) j := by
  unfold k0_pay8 k0_pay6 k0_pay7
  rw [pay4_eq]
  funext i
  idx_vars i
  rw [Fin.sum_univ_eight]
  pointwise [part, dot_S8x384_S1024x384_S8x1024_1_1_0_0_n_n]

theorem out7 (c : C) (w : W) (d : D) (s : S) : G7 (F := Ideal) c w d s = fun i : S8x1024.Idx => dcond c w d s (i 0) (i 1) := by
  unfold G7
  rw [dact_eq]
  funext i
  idx_vars i
  pointwise [k0_pay1, k0_pay9, k0_pay10, k0_pay2, dcond, Gate.slope, Gate.sigmoid, Gate.ofBits_half]

end Cert.Kernel12Ideal.Own

namespace Cert.Reference12Ideal.Own

open Cert.Reference12Ideal Cert.Reference12Ideal.Gen
open Idealize.ShloMosaic Idealize.ShloMosaic.TcCoe Idealize.SL.Sem
open Cert.Kernel12Ideal.Own (C W D S act dmod dbias part dcond)
open scoped BigOperators

theorem act_eq (c : C) : mulf c (Host.divf (F := Ideal) (broadcastInDim S8x1024 ![] bcast_S_S8x1024 (constant S_ .f32 0x3F800000#32)) (addf (broadcastInDim S8x1024 ![] bcast_S_S8x1024 (constant S_ .f32 0x3F800000#32)) (Host.exp (Host.negf c)))) = fun i : S8x1024.Idx => act c (i 0) (i 1) := by
  funext i
  idx_vars i
  pointwise [act]
  exact congrArg _ (Gate.sigmoid_eq _)

theorem dmod_eq (d : D) (s : S) : concatenate S8x3072 1 [⟨S8x2048, (extractStridedSlice S8x2048 ![0, 0] d slices_S8x3072_S8x2048_0_0)⟩, ⟨S8x1024, (extractStridedSlice S8x1024 ![8, 0] s slices_S16x1024_S8x1024_8_0)⟩] concatenates_S8x2048_S8x1024_S8x3072_d1 = fun i : S8x3072.Idx => dmod d s (i 0) (i 1) := by
  funext i
  idx_vars i
  pointwise [dmod]

theorem dbias_eq (d : D) (s : S) (x : FVec Ideal S8x3072 .f32) (hx : x = fun i : S8x3072.Idx => dmod d s (i 0) (i 1)) :
    broadcastInDim S1x3072 ![1] bcast_S3072_S1x3072_1 (Host.reduceAdd (F := Ideal) (shapeCast S1x3072 (Host.reduceAdd (F := Ideal) x (constant S_ .f32 0x00000000#32) reducesTo_S8x3072_S3072_d0 h_S_) shapeCasts_S3072_S1x3072) (constant S_ .f32 0x00000000#32) reducesTo_S1x3072_S3072_d0 h_S_) = fun i : S1x3072.Idx => dbias d s (i 1) := by
  subst hx
  funext i
  idx_vars i
  pointwise [dbias]
  exact Fin.sum_univ_one _

/-- The product over all the columns is the sum of the devices' products. -/
theorem dcond_eq (c : C) (w : W) (d : D) (s : S) (x : FVec Ideal S8x3072 .f32) (hx : x = fun i : S8x3072.Idx => dmod d s (i 0) (i 1)) :
    mulf (Host.dotGeneral (F := Ideal) dot_S8x3072_S1024x3072_S8x1024_1_1_0_0_n_n none x (extf .f32 (shapeCast S1024x3072 (transpose S1024x8x384 [1, 0, 2] w transposes_S8x1024x384_S1024x8x384_1_0_2) shapeCasts_S1024x8x384_S1024x3072) bitsLt_bf16_f32)) (addf (mulf (broadcastInDim S8x1024 ![] bcast_S_S8x1024 (constant S_ .f32 0x3F800000#32)) (Host.divf (F := Ideal) (broadcastInDim S8x1024 ![] bcast_S_S8x1024 (constant S_ .f32 0x3F800000#32)) (addf (broadcastInDim S8x1024 ![] bcast_S_S8x1024 (constant S_ .f32 0x3F800000#32)) (Host.exp (Host.negf c))))) (mulf (mulf c (broadcastInDim S8x1024 ![] bcast_S_S8x1024 (constant S_ .f32 0x3F800000#32))) (mulf (Host.divf (F := Ideal) (broadcastInDim S8x1024 ![] bcast_S_S8x1024 (constant S_ .f32 0x3F800000#32)) (addf (broadcastInDim S8x1024 ![] bcast_S_S8x1024 (constant S_ .f32 0x3F800000#32)) (Host.exp (Host.negf c)))) (subf (broadcastInDim S8x1024 ![] bcast_S_S8x1024 (constant S_ .f32 0x3F800000#32)) (Host.divf (F := Ideal) (broadcastInDim S8x1024 ![] bcast_S_S8x1024 (constant S_ .f32 0x3F800000#32)) (addf (broadcastInDim S8x1024 ![] bcast_S_S8x1024 (constant S_ .f32 0x3F800000#32)) (Host.exp (Host.negf c)))))))) = fun i : S8x1024.Idx => dcond c w d s (i 0) (i 1) := by
  subst hx
  funext i
  idx_vars i
  pointwise [dcond, dot_S8x3072_S1024x3072_S8x1024_1_1_0_0_n_n]
  rw [Gate.sigmoid_eq, Gate.slope_eq, Fin.sum_univ_tiles 8 384 rfl]
  refine congrArg (· * _) (Finset.sum_congr rfl fun j _ => Finset.sum_congr rfl fun n _ => ?_)
  have hj : (⟨(j.val * 384 + n.val) / 384, by omega⟩ : Fin 8) = j := Fin.ext (by dsimp only; omega)
  have hn : (⟨(j.val * 384 + n.val) % 384, by omega⟩ : Fin 384) = n := Fin.ext (by dsimp only; omega)
  exact congrArg₂ (fun a b => dmod d s i0 ⟨j.val * 384 + n.val, _⟩ * w (ix3 a i1 b)) hj hn

end Cert.Reference12Ideal.Own

namespace Cert.Proof

open Idealize.ShloMosaic Idealize.SL.Sem

/-- The kernel's results are the reference's gradients. -/
theorem algebraic12 : Cert.algebraic_Kernel12Ideal_Reference12Ideal := by
  intro m ρ m' ρ' _ hagree
  refine ⟨_, _, _, _, (θ_run Cert.Kernel12Ideal.defs _ _).mono (fun _ h c => ⟨(h c).1.trans (Cert.Kernel12Ideal.Own.out4 _ _ _ _),
    (h c).2.1.trans (Cert.Kernel12Ideal.Own.out5 _ _ _ _), (h c).2.2.1.trans (Cert.Kernel12Ideal.Own.out6 _ _ _ _),
    (h c).2.2.2.1.trans (Cert.Kernel12Ideal.Own.out7 _ _ _ _), (h c).2.2.2.2⟩) (Cert.Kernel12Ideal.Value.run (F := Ideal) m ρ), ?_⟩
  refine (θ_run Cert.Reference12Ideal.defs _ _).mono (fun _ h c => ⟨(h c).1.trans ?_, (h c).2.1.trans ?_, (h c).2.2.1.trans ?_,
    (h c).2.2.2.1.trans ?_, (h c).2.2.2.2⟩) (Cert.Reference12Ideal.Value.run (F := Ideal) m' ρ')
  all_goals
    obtain ⟨e0, e1, e2, e3⟩ := hagree c
  · rw [e0]
    exact Cert.Reference12Ideal.Own.act_eq _
  · rw [e2, e3]
    exact Cert.Reference12Ideal.Own.dmod_eq _ _
  · rw [e2, e3]
    exact Cert.Reference12Ideal.Own.dbias_eq _ _ _ (Cert.Reference12Ideal.Own.dmod_eq _ _)
  · rw [e0, e1, e2, e3]
    exact Cert.Reference12Ideal.Own.dcond_eq _ _ _ _ _ (Cert.Reference12Ideal.Own.dmod_eq _ _)

end Cert.Proof

end
-- ==== Proof.Product13.lean ====
/-
  The conditioning: the embedding through `silu`, and the product with the matrix, whose columns come cut over eight devices.
-/
module

public import proofs.«01_k».proof.Proof.Gen.Kernel13Ideal
public import proofs.«01_k».proof.Proof.Gen.Kernel13Ideal.Value
public import proofs.«01_k».proof.Proof.Gen.Reference13Ideal.Run
public import proofs.«01_k».proof.Proof.Gate
public import proofs.«01_k».proof.Defs
public import Idealize.ShloMosaic.Lib.Pipeline.ValueKit

@[expose] public section

set_option maxRecDepth 16384

noncomputable section

namespace Cert.Kernel13Ideal.Own

open Cert.Kernel13Ideal Cert.Kernel13Ideal.Gen Cert.Kernel13Ideal.Value
open Idealize.ShloMosaic Idealize.ShloMosaic.TcCoe Idealize.SL.Sem
open scoped BigOperators

/-- The embedding, the matrix and the bias. -/
abbrev C := Vec Ideal S8x1024 .f32
abbrev W := Vec Ideal S8x1024x384 .bf16
abbrev B := Vec Ideal S1x3072 .f32

/-- The embedding through `silu`. -/
def act (c : C) (p : Fin 8) (k : Fin 1024) : EReal := c (ix2 p k) * Gate.sigmoid (c (ix2 p k))

/-- The modulation, column by column: column `q` is column `q % 384` of device `q / 384`. -/
def modulation (c : C) (w : W) (b : B) (p : Fin 8) (q : Fin 3072) : EReal :=
  ∑ k : Fin 1024, act c p k * w (ix3 ⟨q.val / 384, by omega⟩ k ⟨q.val % 384, by omega⟩) + b (ix2 0 q)

theorem modulation_at (c : C) (w : W) (b : B) (p : Fin 8) {q : Fin 3072} (j : Fin 8) (n : Fin 384) (h : q.val = j.val * 384 + n.val) :
    modulation c w b p q = ∑ k : Fin 1024, act c p k * w (ix3 j k n) + b (ix2 0 q) := by
  unfold modulation
  have hj : (⟨q.val / 384, by omega⟩ : Fin 8) = j := Fin.ext (by dsimp only; omega)
  have hn : (⟨q.val % 384, by omega⟩ : Fin 384) = n := Fin.ext (by dsimp only; omega)
  rw [hj, hn]

/-! ## What the body stores -/

theorem act_eq (c : C) (w : W) (b : B) : k0_pay12 (F := Ideal) c w b = fun i : S8x1024.Idx => act c (i 0) (i 1) := by
  funext i
  idx_vars i
  pointwise [k0_pay12, k0_pay3, act, Gate.sigmoid, Gate.ofBits_half]

theorem out3 (c : C) (w : W) (b : B) (p : Fin 8) (q : Fin 3072) : G3 (F := Ideal) c w b (ix2 p q) = modulation c w b p q := by
  unfold G3
  rw [act_eq]
  canon_tiles y e using View.cover_of_tiledBy _ ![8, 384] (by sl_kernel_rfl) _
  · idx_vars y
    obtain rfl : p = y0 := Fin.ext e0
    obtain ⟨q, hq⟩ := q
    obtain rfl : q = 2688 + y1.val := e1
    refine Eq.trans ?_ (modulation_at c w b p 7 y1 (by dsimp only; omega)).symm
    pointwise [act, Gate.sigmoid, Gate.ofBits_half, k0_pay1, k0_pay2, k0_pay3, k0_pay4, k0_pay5, k0_pay6, k0_pay7, k0_pay8, k0_pay9, k0_pay10, k0_pay11, dot_S8x1024_S1024x384_S8x384_1_0_0_1_n_n]
  · idx_vars y
    obtain rfl : p = y0 := Fin.ext e0
    obtain ⟨q, hq⟩ := q
    obtain rfl : q = 2304 + y1.val := e1
    refine Eq.trans ?_ (modulation_at c w b p 6 y1 (by dsimp only; omega)).symm
    pointwise [act, Gate.sigmoid, Gate.ofBits_half, k0_pay1, k0_pay2, k0_pay3, k0_pay4, k0_pay5, k0_pay6, k0_pay7, k0_pay8, k0_pay9, k0_pay10, k0_pay11, dot_S8x1024_S1024x384_S8x384_1_0_0_1_n_n]
  · idx_vars y
    obtain rfl : p = y0 := Fin.ext e0
    obtain ⟨q, hq⟩ := q
    obtain rfl : q = 1920 + y1.val := e1
    refine Eq.trans ?_ (modulation_at c w b p 5 y1 (by dsimp only; omega)).symm
    pointwise [act, Gate.sigmoid, Gate.ofBits_half, k0_pay1, k0_pay2, k0_pay3, k0_pay4, k0_pay5, k0_pay6, k0_pay7, k0_pay8, k0_pay9, k0_pay10, k0_pay11, dot_S8x1024_S1024x384_S8x384_1_0_0_1_n_n]
  · idx_vars y
    obtain rfl : p = y0 := Fin.ext e0
    obtain ⟨q, hq⟩ := q
    obtain rfl : q = 1536 + y1.val := e1
    refine Eq.trans ?_ (modulation_at c w b p 4 y1 (by dsimp only; omega)).symm
    pointwise [act, Gate.sigmoid, Gate.ofBits_half, k0_pay1, k0_pay2, k0_pay3, k0_pay4, k0_pay5, k0_pay6, k0_pay7, k0_pay8, k0_pay9, k0_pay10, k0_pay11, dot_S8x1024_S1024x384_S8x384_1_0_0_1_n_n]
  · idx_vars y
    obtain rfl : p = y0 := Fin.ext e0
    obtain ⟨q, hq⟩ := q
    obtain rfl : q = 1152 + y1.val := e1
    refine Eq.trans ?_ (modulation_at c w b p 3 y1 (by dsimp only; omega)).symm
    pointwise [act, Gate.sigmoid, Gate.ofBits_half, k0_pay1, k0_pay2, k0_pay3, k0_pay4, k0_pay5, k0_pay6, k0_pay7, k0_pay8, k0_pay9, k0_pay10, k0_pay11, dot_S8x1024_S1024x384_S8x384_1_0_0_1_n_n]
  · idx_vars y
    obtain rfl : p = y0 := Fin.ext e0
    obtain ⟨q, hq⟩ := q
    obtain rfl : q = 768 + y1.val := e1
    refine Eq.trans ?_ (modulation_at c w b p 2 y1 (by dsimp only; omega)).symm
    pointwise [act, Gate.sigmoid, Gate.ofBits_half, k0_pay1, k0_pay2, k0_pay3, k0_pay4, k0_pay5, k0_pay6, k0_pay7, k0_pay8, k0_pay9, k0_pay10, k0_pay11, dot_S8x1024_S1024x384_S8x384_1_0_0_1_n_n]
  · idx_vars y
    obtain rfl : p = y0 := Fin.ext e0
    obtain ⟨q, hq⟩ := q
    obtain rfl : q = 384 + y1.val := e1
    refine Eq.trans ?_ (modulation_at c w b p 1 y1 (by dsimp only; omega)).symm
    pointwise [act, Gate.sigmoid, Gate.ofBits_half, k0_pay1, k0_pay2, k0_pay3, k0_pay4, k0_pay5, k0_pay6, k0_pay7, k0_pay8, k0_pay9, k0_pay10, k0_pay11, dot_S8x1024_S1024x384_S8x384_1_0_0_1_n_n]
  · idx_vars y
    obtain rfl : p = y0 := Fin.ext e0
    obtain ⟨q, hq⟩ := q
    obtain rfl : q = y1.val := e1
    refine Eq.trans ?_ (modulation_at c w b p 0 y1 (by dsimp only; omega)).symm
    pointwise [act, Gate.sigmoid, Gate.ofBits_half, k0_pay1, k0_pay2, k0_pay3, k0_pay4, k0_pay5, k0_pay6, k0_pay7, k0_pay8, k0_pay9, k0_pay10, k0_pay11, dot_S8x1024_S1024x384_S8x384_1_0_0_1_n_n]

theorem out_eq (c : C) (w : W) (b : B) : G3 (F := Ideal) c w b = fun i : S8x3072.Idx => modulation c w b (i 0) (i 1) := by
  funext i
  idx_vars i
  exact out3 c w b i0 i1

end Cert.Kernel13Ideal.Own

namespace Cert.Reference13Ideal.Own

open Cert.Reference13Ideal Cert.Reference13Ideal.Gen
open Idealize.ShloMosaic Idealize.ShloMosaic.TcCoe Idealize.SL.Sem
open Cert.Kernel13Ideal.Own (C W B act modulation)
open scoped BigOperators

theorem modulation_eq (c : C) (w : W) (b : B) : addf (Host.dotGeneral (F := Ideal) dot_S8x1024_S1024x3072_S8x3072_1_0_0_1_n_n none (mulf c (Host.divf (F := Ideal) (broadcastInDim S8x1024 ![] bcast_S_S8x1024 (constant S_ .f32 0x3F800000#32)) (addf (broadcastInDim S8x1024 ![] bcast_S_S8x1024 (constant S_ .f32 0x3F800000#32)) (Host.exp (Host.negf c))))) (extf .f32 (shapeCast S1024x3072 (transpose S1024x8x384 [1, 0, 2] w transposes_S8x1024x384_S1024x8x384_1_0_2) shapeCasts_S1024x8x384_S1024x3072) bitsLt_bf16_f32)) (broadcastInDim S8x3072 ![0, 1] bcast_S1x3072_S8x3072_0_1 (broadcastInDim S1x3072 ![1] bcast_S3072_S1x3072_1 (shapeCast S3072 b shapeCasts_S1x3072_S3072))) = fun i : S8x3072.Idx => modulation c w b (i 0) (i 1) := by
  funext i
  idx_vars i
  pointwise [modulation, act, Gate.sigmoid_eq, dot_S8x1024_S1024x3072_S8x3072_1_0_0_1_n_n]

end Cert.Reference13Ideal.Own

namespace Cert.Proof

open Idealize.ShloMosaic Idealize.SL.Sem

/-- The kernel's result is the reference's modulation. -/
theorem algebraic13 : Cert.algebraic_Kernel13Ideal_Reference13Ideal := by
  intro m ρ m' ρ' _ hagree
  refine ⟨_, (θ_run Cert.Kernel13Ideal.defs _ _).mono (fun _ h c => ⟨(h c).1.trans (Cert.Kernel13Ideal.Own.out_eq _ _ _), (h c).2⟩)
    (Cert.Kernel13Ideal.Value.run (F := Ideal) m ρ), ?_⟩
  refine (θ_run Cert.Reference13Ideal.defs _ _).mono (fun _ h c => ⟨(h c).1.trans ?_, (h c).2⟩) (Cert.Reference13Ideal.Value.run (F := Ideal) m' ρ')
  obtain ⟨e0, e1, e2⟩ := hagree c
  rw [e0, e1, e2]
  exact Cert.Reference13Ideal.Own.modulation_eq _ _ _

end Cert.Proof

end
-- ==== Proof.Product14.lean ====
/-
  The norm of the rows, scaled and shifted by the conditioning: an example's rows, its context's, and rows of zeros.
-/
module

public import proofs.«01_k».proof.Proof.Gen.Kernel14Ideal
public import proofs.«01_k».proof.Proof.Gen.Kernel14Ideal.Value
public import proofs.«01_k».proof.Proof.Gen.Reference14Ideal.Run
public import proofs.«01_k».proof.Defs
public import Idealize.ShloMosaic.Lib.Pipeline.ValueKit

@[expose] public section

set_option maxRecDepth 16384

noncomputable section

namespace Cert.Kernel14Ideal.Own

open Cert.Kernel14Ideal Cert.Kernel14Ideal.Gen Cert.Kernel14Ideal.Value
open Idealize.ShloMosaic Idealize.ShloMosaic.TcCoe Idealize.SL.Sem
open scoped BigOperators

/-- The examples' rows, the contexts', the modulation and the gain. -/
abbrev X := Vec Ideal S4096x1024 .f32
abbrev C := Vec Ideal S512x1024 .f32
abbrev D := Vec Ideal S8x3072 .f32
abbrev G := Vec Ideal S1x1024 .f32

/-- One row: over its root mean square, times the gain, scaled and shifted by row `r` of the modulation. -/
def normRow (y : Fin 1024 → EReal) (d : D) (g : G) (r : Fin 8) (k : Fin 1024) : EReal :=
  y k * Ideal.rsqrt (Ideal.div (∑ j : Fin 1024, y j * y j) (Ideal.ofBits .f32 0x44800000#32) + Ideal.ofBits .f32 0x358637BD#32)
    * g (ix2 0 k) * (1 + d (ix2 r ⟨1024 + k.val, by omega⟩)) + d (ix2 r ⟨k.val, by omega⟩)

/-- Row `l` of example `e`: its own rows, then its context's, then zeros. -/
def normed (x : X) (c : C) (d : D) (g : G) (e : Fin 2) (l : Fin 2560) (k : Fin 1024) : EReal :=
  if _h : l.val < 2048 then normRow (fun j => x (ix2 ⟨e.val * 2048 + l.val, by omega⟩ j)) d g ⟨e.val, by omega⟩ k
  else if _h : l.val < 2304 then normRow (fun j => c (ix2 ⟨e.val * 256 + (l.val - 2048), by omega⟩ j)) d g 2 k
  else 0

def rows (x : X) (c : C) (d : D) (g : G) (p : Fin 5120) (k : Fin 1024) : EReal :=
  normed x c d g ⟨p.val / 2560, by omega⟩ ⟨p.val % 2560, by omega⟩ k

theorem rows_lat (x : X) (c : C) (d : D) (g : G) (p : Fin 5120) (k : Fin 1024) (e : Fin 8) (r : Fin 4096)
    (h : p.val % 2560 < 2048) (he : e.val = p.val / 2560) (hr : r.val = p.val / 2560 * 2048 + p.val % 2560) :
    rows x c d g p k = normRow (fun j => x (ix2 r j)) d g e k := by
  obtain ⟨e, e_lt⟩ := e
  obtain ⟨r, r_lt⟩ := r
  obtain rfl : e = p.val / 2560 := he
  obtain rfl : r = p.val / 2560 * 2048 + p.val % 2560 := hr
  exact dif_pos h

theorem rows_ctx (x : X) (c : C) (d : D) (g : G) (p : Fin 5120) (k : Fin 1024) (r : Fin 512)
    (h : 2048 ≤ p.val % 2560) (h' : p.val % 2560 < 2304) (hr : r.val = p.val / 2560 * 256 + (p.val % 2560 - 2048)) :
    rows x c d g p k = normRow (fun j => c (ix2 r j)) d g 2 k := by
  obtain ⟨r, r_lt⟩ := r
  obtain rfl : r = p.val / 2560 * 256 + (p.val % 2560 - 2048) := hr
  exact (dif_neg (by dsimp only; omega)).trans (dif_pos h')

theorem rows_pad (x : X) (c : C) (d : D) (g : G) (p : Fin 5120) (k : Fin 1024) (h : 2304 ≤ p.val % 2560) :
    rows x c d g p k = 0 :=
  (dif_neg (by dsimp only; omega)).trans (dif_neg (by dsimp only; omega))

variable (m : (ℓ : Loc nD τ sig) → Buf (Elt Ideal) ℓ)

/-! ## The blocks: ten an example, eight of its rows, one of its context's, one of zeros -/

theorem index0 : ∀ t : Fin cfg0.N, win0_0.index t = ![(grid0.coords t 0).val / 10 * 8 + min ((grid0.coords t 0).val % 10) 7, 0] := by
  decide +kernel
theorem index1 : ∀ t : Fin cfg0.N, win0_1.index t = ![(grid0.coords t 0).val / 10, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![(grid0.coords t 0).val, 0] := by decide +kernel

theorem lt20 (t : Fin cfg0.N) : (grid0.coords t 0).val < 20 := (grid0.coords t 0).isLt

def row0 (t : Fin cfg0.N) (p : Fin 256) : Fin 4096 :=
  ⟨((grid0.coords t 0).val / 10 * 8 + min ((grid0.coords t 0).val % 10) 7) * 256 + p.val, by have := lt20 t; omega⟩
def row1 (t : Fin cfg0.N) (p : Fin 256) : Fin 512 :=
  ⟨(grid0.coords t 0).val / 10 * 256 + p.val, by have := lt20 t; omega⟩
def row4 (t : Fin cfg0.N) (p : Fin 256) : Fin 5120 :=
  ⟨(grid0.coords t 0).val * 256 + p.val, by have := lt20 t; omega⟩

theorem blk0 (c : Dev nD) (t : Fin cfg0.N) (p : Fin 256) (k : Fin 1024) :
    iblk m c 0 t (ix2 p k) = m ((c : Thread nD τ).loc main_arg0) (ix2 (row0 t p) k) := by
  blk_simp [iblk]
  exact congrArg _ (by blk_ext [index0, row0])

theorem blk1 (c : Dev nD) (t : Fin cfg0.N) (p : Fin 256) (k : Fin 1024) :
    iblk m c 1 t (ix2 p k) = m ((c : Thread nD τ).loc main_arg1) (ix2 (row1 t p) k) := by
  blk_simp [iblk]
  exact congrArg _ (by blk_ext [index1, row1])

theorem blk2 (c : Dev nD) (t : Fin cfg0.N) (r : Fin 8) (q : Fin 3072) :
    iblk m c 2 t (ix2 r q) = m ((c : Thread nD τ).loc main_arg2) (ix2 r q) := by
  blk_simp [iblk]
  exact congrArg _ (by blk_ext [index2])

theorem blk3 (c : Dev nD) (t : Fin cfg0.N) (z : Fin 1) (k : Fin 1024) :
    iblk m c 3 t (ix2 z k) = m ((c : Thread nD τ).loc main_arg3) (ix2 0 k) := by
  blk_simp [iblk]
  exact congrArg _ (by blk_ext [index3])

/-! ## The conditions the body computes from the point -/

/-- The point's place in its example, -/
def place (a : BitVec 32) : BitVec 32 :=
  let v1 : BitVec 32 := Scalar.select (Scalar.cmpi .eq 10#32 0#32) 1#32 10#32
  let v2 : BitVec 32 := Scalar.remsi a v1
  Scalar.select (Scalar.andi (Scalar.xori (Scalar.cmpi .slt v2 0#32) (Scalar.cmpi .slt v1 0#32)) (Scalar.cmpi .ne v2 0#32))
    (Scalar.addi v2 v1) v2

/-- and the modulation's row. -/
def modRow (a : BitVec 32) : BitVec 32 :=
  let v14 : BitVec 32 := Scalar.divsi a 10#32
  let v19 : BitVec 32 := Scalar.subi (Scalar.extui (Scalar.cmpi .sgt a 0#32)) (Scalar.extui (Scalar.cmpi .slt a 0#32))
  let v24 : BitVec 32 := Scalar.subi (Scalar.extui (Scalar.cmpi .sgt 10#32 0#32)) (Scalar.extui (Scalar.cmpi .slt 10#32 0#32))
  let v28 : BitVec 1 := Scalar.andi (Scalar.cmpi .ne v19 v24) (Scalar.cmpi .ne (Scalar.remsi a 10#32) 0#32)
  Scalar.select (Scalar.cmpi .slt (place a) 8#32) (Scalar.select v28 (Scalar.subi v14 1#32) v14) 2#32

theorem place_lat : ∀ a : Fin 20, Scalar.cmpi .slt (place (BitVec.ofNat 32 a.val)) 8#32 = if a.val % 10 < 8 then 1#1 else 0#1 := by
  decide +kernel
theorem place_pad : ∀ a : Fin 20, Scalar.cmpi .sge (place (BitVec.ofNat 32 a.val)) 9#32 = if a.val % 10 < 9 then 0#1 else 1#1 := by
  decide +kernel
theorem modRow_two : ∀ a : Fin 20, Scalar.cmpi .eq (modRow (BitVec.ofNat 32 a.val)) 2#32 = if a.val % 10 < 8 then 0#1 else 1#1 := by
  decide +kernel
theorem modRow_one : ∀ a : Fin 20, a.val % 10 < 8 →
    Scalar.cmpi .eq (modRow (BitVec.ofNat 32 a.val)) 1#32 = if a.val / 10 = 1 then 1#1 else 0#1 := by
  decide +kernel

/-! ## What the body stores -/

variable (x0 x1 : Vec Ideal S256x1024 .f32) (x2 : D) (x3 : G)

/-- The chosen rows by the chosen row of the modulation, or zeros. -/
theorem pay2_eq (i : grid0.Coords) : k0_pay2 (F := Ideal) i x0 x1
    = Scalar.select (Scalar.cmpi .slt (place (BitVec.ofNat 32 (i 0).val)) 8#32) x0 x1 := rfl

theorem pay3_eq (i : grid0.Coords) : k0_pay3 (F := Ideal) i x2
    = Scalar.select (Scalar.cmpi .eq (modRow (BitVec.ofNat 32 (i 0).val)) 1#32)
        (extractStridedSlice S1x3072 ![1, 0] x2 slices_S8x3072_o1_0_S1x3072) (extractStridedSlice S1x3072 ![0, 0] x2 slices_S8x3072_o0_0_S1x3072) := rfl

theorem out_eq (i : grid0.Coords) (p : Fin 256) (k : Fin 1024) : out0_4 (F := Ideal) i x0 x1 x2 x3 (ix2 p k)
    = k0_pay1 (F := Ideal) (BitVec.ofNat 32 (i 0).val) (k0_pay2 (F := Ideal) i x0 x1) (modRow (BitVec.ofNat 32 (i 0).val)) x2 (k0_pay3 (F := Ideal) i x2) x3 (ix2 p k) := by
  unfold out0_4
  frame_out
  rfl

/-- The payload, where the conditions are known. -/
theorem pay1_eq (a : BitVec 32) (v : Vec Ideal S256x1024 .f32) (r : BitVec 32) (w : FVec Ideal S1x3072 .f32) (s : Fin 8)
    (hp : Scalar.cmpi .sge (place a) 9#32 = 0#1)
    (hs : ∀ q : Fin 3072, Scalar.select (Scalar.cmpi .eq r 2#32) (extractStridedSlice S1x3072 ![2, 0] x2 slices_S8x3072_o2_0_S1x3072) w (ix2 0 q) = x2 (ix2 s q))
    (p : Fin 256) (k : Fin 1024) : k0_pay1 (F := Ideal) a v r x2 w x3 (ix2 p k) = normRow (fun j => v (ix2 p j)) x2 x3 s k := by
  unfold place at hp
  dsimp only at hp
  unfold k0_pay1
  dsimp only
  rw [hp]
  generalize Scalar.select (Scalar.cmpi .eq r 2#32) (extractStridedSlice S1x3072 ![2, 0] x2 slices_S8x3072_o2_0_S1x3072) w = z at hs ⊢
  pointwise [hs, normRow]

theorem pay1_pad (a : BitVec 32) (v : Vec Ideal S256x1024 .f32) (r : BitVec 32) (w : FVec Ideal S1x3072 .f32)
    (hp : Scalar.cmpi .sge (place a) 9#32 = 1#1)
    (p : Fin 256) (k : Fin 1024) : k0_pay1 (F := Ideal) a v r x2 w x3 (ix2 p k) = 0 := by
  unfold place at hp
  dsimp only at hp
  unfold k0_pay1
  dsimp only
  rw [hp]
  pointwise

theorem out_lat (i : grid0.Coords) (h : (i 0).val % 10 < 8) (p : Fin 256) (k : Fin 1024) :
    out0_4 (F := Ideal) i x0 x1 x2 x3 (ix2 p k)
      = normRow (fun j => x0 (ix2 p j)) x2 x3 ⟨(i 0).val / 10, by have : (i 0).val < 20 := (i 0).isLt; omega⟩ k := by
  rw [out_eq, pay2_eq, (place_lat (i 0)).trans (if_pos h)]
  refine pay1_eq x2 x3 _ _ _ _ _ ((place_pad (i 0)).trans (if_pos (by omega))) (fun q => ?_) p k
  rw [(modRow_two (i 0)).trans (if_pos h), pay3_eq, modRow_one (i 0) h]
  have : (i 0).val < 20 := (i 0).isLt
  by_cases h1 : (i 0).val / 10 = 1
  · rw [if_pos h1]
    refine Eq.trans (b := x2 (ix2 1 q)) ?_ (congrArg (fun r => x2 (ix2 r q)) (Fin.ext h1.symm))
    rw [ValueIdx.select_zero, ValueIdx.select_one]
    pointwise
  · rw [if_neg h1]
    refine Eq.trans (b := x2 (ix2 0 q)) ?_ (congrArg (fun r => x2 (ix2 r q)) (Fin.ext (by dsimp only; omega)))
    rw [ValueIdx.select_zero, ValueIdx.select_zero]
    pointwise

theorem out_ctx (i : grid0.Coords) (h : (i 0).val % 10 = 8) (p : Fin 256) (k : Fin 1024) :
    out0_4 (F := Ideal) i x0 x1 x2 x3 (ix2 p k) = normRow (fun j => x1 (ix2 p j)) x2 x3 2 k := by
  rw [out_eq, pay2_eq, (place_lat (i 0)).trans (if_neg (by omega))]
  refine pay1_eq x2 x3 _ _ _ _ _ ((place_pad (i 0)).trans (if_pos (by omega))) (fun q => ?_) p k
  rw [(modRow_two (i 0)).trans (if_neg (by omega)), ValueIdx.select_one]
  pointwise

theorem out_pad (i : grid0.Coords) (h : (i 0).val % 10 = 9) (p : Fin 256) (k : Fin 1024) :
    out0_4 (F := Ideal) i x0 x1 x2 x3 (ix2 p k) = 0 := by
  rw [out_eq]
  exact pay1_pad x2 x3 _ _ _ _ ((place_pad (i 0)).trans (if_neg (by omega))) p k

/-! ## The result array -/

theorem final4 (c : Dev nD) : (dats m 0 c).arrAt 4 cfg0.N = fun i : S5120x1024.Idx =>
    rows (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  idx_vars y
  refine Eq.trans (b := rows (m ((c : Thread nD τ).loc main_arg0)) (m ((c : Thread nD τ).loc main_arg1)) (m ((c : Thread nD τ).loc main_arg2)) (m ((c : Thread nD τ).loc main_arg3)) (row4 t y0) y1) ?_
    (congrArg₂ (rows _ _ _ _) (Fin.ext (by blk_simp [index4, row4])) (Fin.ext (by blk_simp [index4])))
  have ht := lt20 t
  by_cases h : (grid0.coords t 0).val % 10 < 8
  · rw [out_lat _ _ _ _ _ h, rows_lat _ _ _ _ _ _ ⟨(grid0.coords t 0).val / 10, by omega⟩ (row0 t y0) (by dsimp only [row4]; omega) (by dsimp only [row4]; omega) (by dsimp only [row4, row0]; omega)]
    simp only [normRow, blk0, blk2, blk3]
  · by_cases h' : (grid0.coords t 0).val % 10 = 8
    · rw [out_ctx _ _ _ _ _ h', rows_ctx _ _ _ _ _ _ (row1 t y0) (by dsimp only [row4]; omega) (by dsimp only [row4]; omega) (by dsimp only [row4, row1]; omega)]
      simp only [normRow, blk1, blk2, blk3]
    · rw [out_pad _ _ _ _ _ (by omega), rows_pad _ _ _ _ _ _ (by dsimp only [row4]; omega)]

end Cert.Kernel14Ideal.Own

namespace Cert.Reference14Ideal.Own

open Cert.Reference14Ideal Cert.Reference14Ideal.Gen
open Idealize.ShloMosaic Idealize.ShloMosaic.TcCoe Idealize.SL.Sem
open Cert.Kernel14Ideal.Own (X C D G normRow normed rows)
open scoped BigOperators

theorem lat_eq (x : X) (d : D) (g : G) : addf (mulf (mulf (mulf (shapeCast S2x2048x1024 x shapeCasts_S4096x1024_S2x2048x1024) (broadcastInDim S2x2048x1024 ![0, 1, 2] bcast_S2x2048x1_S2x2048x1024_0_1_2 (Host.rsqrt (F := Ideal) (addf (Host.divf (F := Ideal) (broadcastInDim S2x2048x1 ![0, 1] bcast_S2x2048_S2x2048x1_0_1 (Host.reduceAdd (F := Ideal) (mulf (shapeCast S2x2048x1024 x shapeCasts_S4096x1024_S2x2048x1024) (shapeCast S2x2048x1024 x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast S1024 g shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 0] (extractStridedSlice S8x1024 ![0, 1024] d slices_S8x3072_S8x1024_0_1024) slices_S8x1024_S2x1024_0_0))))) (broadcastInDim S2x2048x1024 ![0, 1, 2] bcast_S2x1x1024_S2x2048x1024_0_1_2 (broadcastInDim S2x1x1024 ![0, 2] bcast_S2x1024_S2x1x1024_0_2 (extractStridedSlice S2x1024 ![0, 0] (extractStridedSlice S8x1024 ![0, 0] d slices_S8x3072_S8x1024_0_0) slices_S8x1024_S2x1024_0_0)))
    = fun i : S2x2048x1024.Idx => normRow (fun j => x (ix2 ⟨(i 0).val * 2048 + (i 1).val, by have : (i 0).val < 2 := (i 0).isLt; have : (i 1).val < 2048 := (i 1).isLt; omega⟩ j)) d g ⟨(i 0).val, by have : (i 0).val < 2 := (i 0).isLt; omega⟩ (i 2) := by
  funext i
  idx_vars i
  pointwise [normRow]

theorem ctx_eq (c : C) (d : D) (g : G) : addf (mulf (mulf (mulf (shapeCast S2x256x1024 c shapeCasts_S512x1024_S2x256x1024) (broadcastInDim S2x256x1024 ![0, 1, 2] bcast_S2x256x1_S2x256x1024_0_1_2 (Host.rsqrt (F := Ideal) (addf (Host.divf (F := Ideal) (broadcastInDim S2x256x1 ![0, 1] bcast_S2x256_S2x256x1_0_1 (Host.reduceAdd (F := Ideal) (mulf (shapeCast S2x256x1024 c shapeCasts_S512x1024_S2x256x1024) (shapeCast S2x256x1024 c shapeCasts_S512x1024_S2x256x1024)) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast S1024 g shapeCasts_S1x1024_S1024)))) (broadcastInDim S2x256x1024 ![0, 1, 2] bcast_S1x1x1024_S2x256x1024_0_1_2 (broadcastInDim S1x1x1024 ![2] bcast_S1024_S1x1x1024_2 (addf (broadcastInDim S1024 ![] bcast_S_S1024 (constant S_ .f32 0x3F800000#32)) (shapeCast S1024 (extractStridedSlice S1x1024 ![2, 0] (extractStridedSlice S8x1024 ![0, 1024] d slices_S8x3072_S8x1024_0_1024) slices_S8x1024_S1x1024_2_0) shapeCasts_S1x1024_S1024))))) (broadcastInDim S2x256x1024 ![0, 1, 2] bcast_S1x1x1024_S2x256x1024_0_1_2 (broadcastInDim S1x1x1024 ![2] bcast_S1024_S1x1x1024_2 (shapeCast S1024 (extractStridedSlice S1x1024 ![2, 0] (extractStridedSlice S8x1024 ![0, 0] d slices_S8x3072_S8x1024_0_0) slices_S8x1024_S1x1024_2_0) shapeCasts_S1x1024_S1024)))
    = fun i : S2x256x1024.Idx => normRow (fun j => c (ix2 ⟨(i 0).val * 256 + (i 1).val, by have : (i 0).val < 2 := (i 0).isLt; have : (i 1).val < 256 := (i 1).isLt; omega⟩ j)) d g 2 (i 2) := by
  funext i
  idx_vars i
  pointwise [normRow]

theorem rows_eq (x : X) (c : C) (d : D) (g : G) (u : FVec Ideal S2x2048x1024 .f32) (v : FVec Ideal S2x256x1024 .f32)
    (hu : u = fun i : S2x2048x1024.Idx => normRow (fun j => x (ix2 ⟨(i 0).val * 2048 + (i 1).val, by have : (i 0).val < 2 := (i 0).isLt; have : (i 1).val < 2048 := (i 1).isLt; omega⟩ j)) d g ⟨(i 0).val, by have : (i 0).val < 2 := (i 0).isLt; omega⟩ (i 2))
    (hv : v = fun i : S2x256x1024.Idx => normRow (fun j => c (ix2 ⟨(i 0).val * 256 + (i 1).val, by have : (i 0).val < 2 := (i 0).isLt; have : (i 1).val < 256 := (i 1).isLt; omega⟩ j)) d g 2 (i 2)) :
    truncf (F := Ideal) .bf16 (shapeCast S5120x1024 ((concatenate S2x2560x1024 1 [⟨S2x2048x1024, (u : (⟨S2x2048x1024, .f32⟩ : BufTy).Contents (Elt Ideal))⟩, ⟨S2x256x1024, (v : (⟨S2x256x1024, .f32⟩ : BufTy).Contents (Elt Ideal))⟩, ⟨S2x256x1024, ((broadcastInDim S2x256x1024 ![] bcast_S_S2x256x1024 (constant (F := Ideal) S_ .f32 0x00000000#32)) : (⟨S2x256x1024, .f32⟩ : BufTy).Contents (Elt Ideal))⟩] concatenates_S2x2048x1024_S2x256x1024_S2x256x1024_S2x2560x1024_d1 : (⟨S2x2560x1024, .f32⟩ : BufTy).Contents (Elt Ideal))) shapeCasts_S2x2560x1024_S5120x1024) bitsLt_bf16_f32 = fun i : S5120x1024.Idx => rows x c d g (i 0) (i 1) := by
  subst hu hv
  funext i
  idx_vars i
  pointwise [rows, normed]
  have hi := i0.isLt
  by_cases h : i0.val % 2560 < 2048
  · rw [dif_pos h, dif_pos h]
  rw [dif_neg h, dif_neg h]
  by_cases h' : i0.val % 2560 < 2304
  · rw [dif_pos (show i0.val % 2560 - 2048 < 256 by omega), dif_pos h']
  · rw [dif_neg (show ¬ i0.val % 2560 - 2048 < 256 by omega), dif_neg h']

end Cert.Reference14Ideal.Own

namespace Cert.Proof

open Idealize.ShloMosaic Idealize.SL.Sem

/-- The kernel's rows are the reference's. -/
theorem algebraic14 : Cert.algebraic_Kernel14Ideal_Reference14Ideal := by
  intro m ρ m' ρ' _ hagree
  refine ⟨_, (θ_run Cert.Kernel14Ideal.defs _ _).mono (fun _ h c => ⟨(h c).1.trans (Cert.Kernel14Ideal.Own.final4 m c), (h c).2⟩)
    (Cert.Kernel14Ideal.Value.run_blocks (F := Ideal) m ρ), ?_⟩
  refine (θ_run Cert.Reference14Ideal.defs _ _).mono (fun _ h c => ⟨(h c).1.trans ?_, (h c).2⟩) (Cert.Reference14Ideal.Value.run (F := Ideal) m' ρ')
  obtain ⟨e0, e1, e2, e3⟩ := hagree c
  rw [e0, e1, e2, e3]
  exact Cert.Reference14Ideal.Own.rows_eq _ _ _ _ _ _ (Cert.Reference14Ideal.Own.lat_eq _ _ _) (Cert.Reference14Ideal.Own.ctx_eq _ _ _)

end Cert.Proof

end
-- ==== Proof.lean ====
/-
  The proof of `Cert.Claim`. The run of the gated linear attention's backward call is in Proof/Run.lean, what each product's
  call computes in Proof/Product2.lean and the modules beside it.
-/
module

public import proofs.«01_k».proof.Defs
public import proofs.«01_k».proof.Proof.Gen.Kernel
public import proofs.«01_k».proof.Proof.Gen.KernelIdeal
public import proofs.«01_k».proof.Proof.Run
public import proofs.«01_k».proof.Proof.Same
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Product2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Product3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Product4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Product5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Product6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Product7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Product8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Product9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Product10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Product11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Product12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Product13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Product14
public import Idealize.ShloMosaic.Adequacy
public import Idealize.ShloMosaic.Init

@[expose] public section

set_option maxRecDepth 100000

noncomputable section

namespace Cert.Proof

open Idealize.ShloMosaic Idealize.SL.Sem

/-- The run of the ideal program, at any float values, is the run of the printed one. -/
theorem frame_kernel : Cert.quiescent_Kernel := fun m ρ _ => by
  have h := Cert.KernelIdeal.Own.frame (F := Bits) m ρ
  rw [← Same.table, ← Same.entry] at h
  exact h

theorem frame_kernelIdeal : Cert.quiescent_KernelIdeal := fun m ρ _ => Cert.KernelIdeal.Own.frame (F := Ideal) m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem frame_reference12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem claim : Cert.Claim := ⟨Cert.Kernel.Gen.facts, Cert.KernelIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  frame_kernel, frame_kernelIdeal,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  trivial,
  trivial, algebraic2,
  trivial, algebraic3,
  trivial, algebraic4,
  trivial, algebraic5,
  trivial, algebraic6,
  trivial, algebraic7,
  trivial, algebraic8,
  trivial, algebraic9,
  trivial, algebraic10,
  trivial, algebraic11,
  trivial, algebraic12,
  trivial, algebraic13,
  trivial, algebraic14⟩

end Cert.Proof

end
